-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries [hPre_finite_queries : Cert.Pre_finite_queries.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries [hPre_finite_queries : Cert.Pre_finite_queries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_queries [hKernelIdeal : Cert.KernelIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_queries [hReferenceIdeal : Cert.ReferenceIdeal.Facts] [hPre_finite_queries : Cert.Pre_finite_queries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e_over_sqrt" .f32 0x3D553B95#32 (((Real.log 2)⁻¹ * (Real.sqrt 768)⁻¹ : ℝ) : EReal)

def algebraic_KernelIdeal_ReferenceIdeal_pre_finite_queries [hKernelIdeal : Cert.KernelIdeal.Facts] [hReferenceIdeal : Cert.ReferenceIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_queries : Cert.Pre_finite_queries.Facts),
    quiescent_Kernel (hKernel := hKernel)
    ∧ quiescent_KernelIdeal (hKernelIdeal := hKernelIdeal)
    ∧ quiescent_KernelIdeal_pre_finite_queries (hKernelIdeal := hKernelIdeal) (hPre_finite_queries := hPre_finite_queries)
    ∧ quiescent_ReferenceIdeal (hReferenceIdeal := hReferenceIdeal)
    ∧ quiescent_ReferenceIdeal_pre_finite_queries (hReferenceIdeal := hReferenceIdeal) (hPre_finite_queries := hPre_finite_queries)
    ∧ preserves_Kernel_KernelIdeal
    ∧ algebraic_KernelIdeal_ReferenceIdeal_pre_finite_queries (hKernelIdeal := hKernelIdeal) (hReferenceIdeal := hReferenceIdeal) (hPre_finite_queries := hPre_finite_queries)
-- ==== Pre_finite_queries.lean ====
abbrev S1x2048x768 : Shape := ⟨3, ![1, 2048, 768]⟩
abbrev S768x768 : Shape := ⟨2, ![768, 768]⟩
abbrev S768 : Shape := ⟨1, ![768]⟩
abbrev S65x2 : Shape := ⟨2, ![65, 2]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S1x2048x768 .f32) (main_arg1 : FVec F S768x768 .f32) (main_arg2 : FVec F S768 .f32) (main_arg3 : FVec F S768x768 .f32) (main_arg4 : FVec F S768 .f32) (main_arg5 : FVec F S65x2 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S1x2048x768 : Shape := ⟨3, ![1, 2048, 768]⟩
abbrev S768x768 : Shape := ⟨2, ![768, 768]⟩
abbrev S768 : Shape := ⟨1, ![768]⟩
abbrev S65x2 : Shape := ⟨2, ![65, 2]⟩
abbrev S2048x768 : Shape := ⟨2, ![2048, 768]⟩
abbrev S6x128x768 : Shape := ⟨3, ![6, 128, 768]⟩
abbrev S6x1x128 : Shape := ⟨3, ![6, 1, 128]⟩
abbrev S1x128x768 : Shape := ⟨3, ![1, 128, 768]⟩
abbrev S1x1x128 : Shape := ⟨3, ![1, 1, 128]⟩
abbrev S2048x128 : Shape := ⟨2, ![2048, 128]⟩
abbrev S128x768 : Shape := ⟨2, ![128, 768]⟩
abbrev S1x128 : Shape := ⟨2, ![1, 128]⟩
abbrev S2048x4 : Shape := ⟨2, ![2048, 4]⟩
abbrev S2048x1 : Shape := ⟨2, ![2048, 1]⟩
abbrev S2048x64 : Shape := ⟨2, ![2048, 64]⟩
abbrev S64x2 : Shape := ⟨2, ![64, 2]⟩
abbrev S2048x2 : Shape := ⟨2, ![2048, 2]⟩
abbrev S1x2 : Shape := ⟨2, ![1, 2]⟩
abbrev S2048x65 : Shape := ⟨2, ![2048, 65]⟩
abbrev S512x64 : Shape := ⟨2, ![512, 64]⟩
abbrev S512x2048 : Shape := ⟨2, ![512, 2048]⟩
abbrev S512x4 : Shape := ⟨2, ![512, 4]⟩
abbrev S512x65 : Shape := ⟨2, ![512, 65]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S1x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S65x2, .f32⟩
  | .hbm, ⟨6, _⟩ => ⟨S2048x768, .f32⟩
  | .hbm, ⟨7, _⟩ => ⟨S6x128x768, .f32⟩
  | .hbm, ⟨8, _⟩ => ⟨S6x128x768, .f32⟩
  | .hbm, ⟨9, _⟩ => ⟨S6x1x128, .f32⟩
  | .hbm, ⟨10, _⟩ => ⟨S6x1x128, .f32⟩
  | .hbm, ⟨11, _⟩ => ⟨S2048x768, .f32⟩
  | .hbm, ⟨12, _⟩ => ⟨S1x2048x768, .f32⟩
  | .local _ .vmem, ⟨0, _⟩ => ⟨S2048x768, .f32⟩
  | .local _ .vmem, ⟨1, _⟩ => ⟨S1x128x768, .f32⟩
  | .local _ .vmem, ⟨2, _⟩ => ⟨S1x128x768, .f32⟩
  | .local _ .vmem, ⟨3, _⟩ => ⟨S1x1x128, .f32⟩
  | .local _ .vmem, ⟨4, _⟩ => ⟨S1x1x128, .f32⟩
  | .local _ .vmem, ⟨5, _⟩ => ⟨S1x128x768, .f32⟩
  | .local _ .vmem, ⟨6, _⟩ => ⟨S1x128x768, .f32⟩
  | .local _ .vmem, ⟨7, _⟩ => ⟨S1x1x128, .f32⟩
  | .local _ .vmem, ⟨8, _⟩ => ⟨S1x1x128, .f32⟩
  | .local _ .vmem, ⟨9, _⟩ => ⟨S65x2, .f32⟩
  | .local _ .vmem, ⟨10, _⟩ => ⟨S2048x128, .f32⟩
  | .local _ .vmem, ⟨11, _⟩ => ⟨S2048x128, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S65x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e_over_sqrt" => some (((Real.log 2)⁻¹ * (Real.sqrt 768)⁻¹ : ℝ) : EReal)
  | _ => none
-- ==== ReferenceIdeal.lean ====
abbrev S1x2048x768 : Shape := ⟨3, ![1, 2048, 768]⟩
abbrev S768x768 : Shape := ⟨2, ![768, 768]⟩
abbrev S768 : Shape := ⟨1, ![768]⟩
abbrev S65x2 : Shape := ⟨2, ![65, 2]⟩
abbrev S1x1x768 : Shape := ⟨3, ![1, 1, 768]⟩
abbrev S1x2048x12x64 : Shape := ⟨4, ![1, 2048, 12, 64]⟩
abbrev S_ : Shape := ⟨0, ![]⟩
abbrev S1x2048x12x1 : Shape := ⟨4, ![1, 2048, 12, 1]⟩
abbrev S1x2048x12x65 : Shape := ⟨4, ![1, 2048, 12, 65]⟩
abbrev S1x2048x12x2 : Shape := ⟨4, ![1, 2048, 12, 2]⟩
abbrev S2 : Shape := ⟨1, ![2]⟩
abbrev S1x2048x12 : Shape := ⟨3, ![1, 2048, 12]⟩
abbrev S1x1x1x4 : Shape := ⟨4, ![1, 1, 1, 4]⟩
abbrev S1x2048x12x4 : Shape := ⟨4, ![1, 2048, 12, 4]⟩
abbrev S1x12x2048x64 : Shape := ⟨4, ![1, 12, 2048, 64]⟩
abbrev S4x1x12x2048 : Shape := ⟨4, ![4, 1, 12, 2048]⟩
abbrev S4x1x12x2048x1 : Shape := ⟨5, ![4, 1, 12, 2048, 1]⟩
abbrev S1x1x12x2048x64 : Shape := ⟨5, ![1, 1, 12, 2048, 64]⟩
abbrev S4x1x12x2048x64 : Shape := ⟨5, ![4, 1, 12, 2048, 64]⟩
abbrev S4x1x12x64x2048 : Shape := ⟨5, ![4, 1, 12, 64, 2048]⟩
abbrev S4x12x2048x64 : Shape := ⟨4, ![4, 12, 2048, 64]⟩
abbrev S4x12x64x2048 : Shape := ⟨4, ![4, 12, 64, 2048]⟩
abbrev S4x12x2048x2048 : Shape := ⟨4, ![4, 12, 2048, 2048]⟩
abbrev S4x1x12x2048x2048 : Shape := ⟨5, ![4, 1, 12, 2048, 2048]⟩
abbrev S1x12x2048x2048 : Shape := ⟨4, ![1, 12, 2048, 2048]⟩
abbrev S1x12x2048 : Shape := ⟨3, ![1, 12, 2048]⟩
abbrev S1x12x2048x1 : Shape := ⟨4, ![1, 12, 2048, 1]⟩
abbrev S12x2048x2048 : Shape := ⟨3, ![12, 2048, 2048]⟩
abbrev S12x2048x64 : Shape := ⟨3, ![12, 2048, 64]⟩

abbrev nBuf : Space → Nat
  | .hbm => 83
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S65x2, .f32⟩
  | .hbm, ⟨6, _⟩ => ⟨S768x768, .f32⟩
  | .hbm, ⟨7, _⟩ => ⟨S1x2048x768, .f32⟩
  | .hbm, ⟨8, _⟩ => ⟨S1x1x768, .f32⟩
  | .hbm, ⟨9, _⟩ => ⟨S1x2048x768, .f32⟩
  | .hbm, ⟨10, _⟩ => ⟨S1x2048x768, .f32⟩
  | .hbm, ⟨11, _⟩ => ⟨S768x768, .f32⟩
  | .hbm, ⟨12, _⟩ => ⟨S1x2048x768, .f32⟩
  | .hbm, ⟨13, _⟩ => ⟨S1x1x768, .f32⟩
  | .hbm, ⟨14, _⟩ => ⟨S1x2048x768, .f32⟩
  | .hbm, ⟨15, _⟩ => ⟨S1x2048x768, .f32⟩
  | .hbm, ⟨16, _⟩ => ⟨S1x2048x12x64, .f32⟩
  | .hbm, ⟨17, _⟩ => ⟨S1x2048x12x64, .f32⟩
  | .hbm, ⟨18, _⟩ => ⟨S_, .f32⟩
  | .hbm, ⟨19, _⟩ => ⟨S1x2048x12x1, .f32⟩
  | .hbm, ⟨20, _⟩ => ⟨S1x2048x12x65, .f32⟩
  | .hbm, ⟨21, _⟩ => ⟨S1x2048x12x2, .f32⟩
  | .hbm, ⟨22, _⟩ => ⟨S_, .f32⟩
  | .hbm, ⟨23, _⟩ => ⟨S1x2048x12x2, .f32⟩
  | .hbm, ⟨24, _⟩ => ⟨S1x2048x12x2, .i1⟩
  | .hbm, ⟨25, _⟩ => ⟨S_, .f32⟩
  | .hbm, ⟨26, _⟩ => ⟨S1x2048x12x2, .f32⟩
  | .hbm, ⟨27, _⟩ => ⟨S_, .f32⟩
  | .hbm, ⟨28, _⟩ => ⟨S1x2048x12x2, .f32⟩
  | .hbm, ⟨29, _⟩ => ⟨S1x2048x12x2, .f32⟩
  | .hbm, ⟨30, _⟩ => ⟨S2, .i32⟩
  | .hbm, ⟨31, _⟩ => ⟨S2, .f32⟩
  | .hbm, ⟨32, _⟩ => ⟨S_, .f32⟩
  | .hbm, ⟨33, _⟩ => ⟨S2, .f32⟩
  | .hbm, ⟨34, _⟩ => ⟨S2, .f32⟩
  | .hbm, ⟨35, _⟩ => ⟨S2, .f32⟩
  | .hbm, ⟨36, _⟩ => ⟨S1x2048x12, .f32⟩
  | .hbm, ⟨37, _⟩ => ⟨S1x2048x12, .i32⟩
  | .hbm, ⟨38, _⟩ => ⟨S1x2048x12x1, .i32⟩
  | .hbm, ⟨39, _⟩ => ⟨S1x1x1x4, .i32⟩
  | .hbm, ⟨40, _⟩ => ⟨S1x2048x12x4, .i32⟩
  | .hbm, ⟨41, _⟩ => ⟨S1x2048x12x4, .i32⟩
  | .hbm, ⟨42, _⟩ => ⟨S1x2048x12x4, .i1⟩
  | .hbm, ⟨43, _⟩ => ⟨S1x2048x12x4, .f32⟩
  | .hbm, ⟨44, _⟩ => ⟨S1x12x2048x64, .f32⟩
  | .hbm, ⟨45, _⟩ => ⟨S1x12x2048x64, .f32⟩
  | .hbm, ⟨46, _⟩ => ⟨S4x1x12x2048, .f32⟩
  | .hbm, ⟨47, _⟩ => ⟨S4x1x12x2048x1, .f32⟩
  | .hbm, ⟨48, _⟩ => ⟨S1x1x12x2048x64, .f32⟩
  | .hbm, ⟨49, _⟩ => ⟨S4x1x12x2048x64, .f32⟩
  | .hbm, ⟨50, _⟩ => ⟨S4x1x12x2048x64, .f32⟩
  | .hbm, ⟨51, _⟩ => ⟨S4x1x12x2048x64, .f32⟩
  | .hbm, ⟨52, _⟩ => ⟨S4x1x12x64x2048, .f32⟩
  | .hbm, ⟨53, _⟩ => ⟨S4x12x2048x64, .f32⟩
  | .hbm, ⟨54, _⟩ => ⟨S4x12x64x2048, .f32⟩
  | .hbm, ⟨55, _⟩ => ⟨S4x12x2048x2048, .f32⟩
  | .hbm, ⟨56, _⟩ => ⟨S4x1x12x2048x2048, .f32⟩
  | .hbm, ⟨57, _⟩ => ⟨S_, .f32⟩
  | .hbm, ⟨58, _⟩ => ⟨S_, .f32⟩
  | .hbm, ⟨59, _⟩ => ⟨S4x1x12x2048x2048, .f32⟩
  | .hbm, ⟨60, _⟩ => ⟨S4x1x12x2048x2048, .f32⟩
  | .hbm, ⟨61, _⟩ => ⟨S_, .f32⟩
  | .hbm, ⟨62, _⟩ => ⟨S1x12x2048x2048, .f32⟩
  | .hbm, ⟨63, _⟩ => ⟨S_, .f32⟩
  | .hbm, ⟨64, _⟩ => ⟨S1x12x2048, .f32⟩
  | .hbm, ⟨65, _⟩ => ⟨S_, .f32⟩
  | .hbm, ⟨66, _⟩ => ⟨S1x12x2048, .f32⟩
  | .hbm, ⟨67, _⟩ => ⟨S1x12x2048, .f32⟩
  | .hbm, ⟨68, _⟩ => ⟨S1x12x2048x1, .f32⟩
  | .hbm, ⟨69, _⟩ => ⟨S1x12x2048x2048, .f32⟩
  | .hbm, ⟨70, _⟩ => ⟨S1x12x2048x2048, .f32⟩
  | .hbm, ⟨71, _⟩ => ⟨S1x12x2048x2048, .f32⟩
  | .hbm, ⟨72, _⟩ => ⟨S_, .f32⟩
  | .hbm, ⟨73, _⟩ => ⟨S1x12x2048, .f32⟩
  | .hbm, ⟨74, _⟩ => ⟨S1x12x2048x1, .f32⟩
  | .hbm, ⟨75, _⟩ => ⟨S1x12x2048x2048, .f32⟩
  | .hbm, ⟨76, _⟩ => ⟨S1x12x2048x2048, .f32⟩
  | .hbm, ⟨77, _⟩ => ⟨S12x2048x2048, .f32⟩
  | .hbm, ⟨78, _⟩ => ⟨S12x2048x64, .f32⟩
  | .hbm, ⟨79, _⟩ => ⟨S12x2048x64, .f32⟩
  | .hbm, ⟨80, _⟩ => ⟨S1x12x2048x64, .f32⟩
  | .hbm, ⟨81, _⟩ => ⟨S1x2048x12x64, .f32⟩
  | .hbm, ⟨82, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Proof.Attn.lean ====
/- The mathematics: attention restricted to buckets, written in the kernel's way and in the reference's way, for one
   head whose queries are real numbers, and the equality of the two. The values may be any extended reals. -/
module

public import Idealize.ShloMosaic.PureOps.Ideal

@[expose] public section

noncomputable section

namespace Cert.Attn

open Idealize.ShloMosaic

/-! ## Sums of extended reals -/

/-- A finite sum of real numbers, read among the extended reals. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- A sum of arbitrary extended reals may be multiplied by a nonnegative real term by term. -/
theorem sum_mul_coe {ι : Type} (s : Finset ι) (f : ι → EReal) {r : ℝ} (hr : 0 ≤ r) :
    (∑ k ∈ s, f k) * (r : EReal) = ∑ k ∈ s, f k * (r : EReal) := by
  classical
  induction s using Finset.induction_on with
  | empty => simp
  | insert a s h ih =>
    rw [Finset.sum_insert h, Finset.sum_insert h, ← ih]
    exact EReal.right_distrib_of_nonneg_of_ne_top (EReal.coe_nonneg.mpr hr) (EReal.coe_ne_top r) _ _

/-- The largest of finitely many, at least one, real numbers is a real number, whatever the fold starts from below. -/
theorem exists_fold_max {ι : Type} (s : Finset ι) (hs : s.Nonempty) (t : ι → ℝ) :
    ∃ r : ℝ, s.fold max (⊥ : EReal) (fun k => ((t k : ℝ) : EReal)) = r := by
  classical
  induction hs using Finset.Nonempty.cons_induction with
  | singleton a => exact ⟨t a, by simp⟩
  | cons a s h hs ih =>
    obtain ⟨r, hr⟩ := ih
    exact ⟨max (t a) r, by rw [Finset.fold_cons, hr]; exact (EReal.coe_strictMono.monotone.map_max).symm⟩

/-! ## The softmax -/

/-- A weighted mean does not change when every exponent is shifted by the same real: the sum of `exp tⱼ · vⱼ` times one
    over the sum of `exp tⱼ` is the sum of the softmax weights, written with a subtracted `M`, times the values. -/
theorem softmax_shift {ι : Type} [Fintype ι] [Nonempty ι] (t : ι → ℝ) (M : ℝ) (v : ι → EReal) :
    (∑ j, ((Real.exp (t j) : ℝ) : EReal) * v j) * Ideal.div 1 (∑ j, ((Real.exp (t j) : ℝ) : EReal))
      = ∑ j, Ideal.div (Ideal.exp (((t j : ℝ) : EReal) - (M : EReal))) (∑ k, Ideal.exp (((t k : ℝ) : EReal) - (M : EReal))) * v j := by
  have hz : 0 < ∑ j, Real.exp (t j) := Finset.sum_pos (fun j _ => Real.exp_pos _) Finset.univ_nonempty
  have hm : ∀ j, Ideal.exp (((t j : ℝ) : EReal) - (M : EReal)) = ((Real.exp (t j) * (Real.exp M)⁻¹ : ℝ) : EReal) := fun j => by
    rw [← EReal.coe_sub, Ideal.exp_coe, Real.exp_sub, div_eq_mul_inv]
  have hzm : ∑ j, Real.exp (t j) * (Real.exp M)⁻¹ ≠ 0 := by
    rw [← Finset.sum_mul]; exact (mul_pos hz (inv_pos.mpr (Real.exp_pos M))).ne'
  simp only [hm, sum_coe, Ideal.div_coe hz.ne', Ideal.div_coe hzm, one_mul]
  rw [sum_mul_coe _ _ (by positivity)]
  refine Finset.sum_congr rfl fun j _ => ?_
  rw [mul_right_comm, ← EReal.coe_mul, ← EReal.coe_mul, ← Finset.sum_mul]
  congr 2
  field_simp

/-! ## The bucket mask -/

/-- Entry `b` of the one-hot row of the bucket number `n`. -/
def hot (n : ℕ) (b : Fin 4) : EReal := if n = (b : ℕ) then 1 else 0

/-- The product of two one-hot rows says whether the buckets agree. -/
theorem sum_hot {n k : ℕ} (hn : n < 4) (hk : k < 4) : ∑ b : Fin 4, hot n b * hot k b = if n = k then 1 else 0 := by
  interval_cases n <;> interval_cases k <;> simp [hot, Fin.sum_univ_four]

/-- A one-hot entry is a real number. -/
theorem hot_coe (n : ℕ) (b : Fin 4) : hot n b = (((if n = (b : ℕ) then 1 else 0 : ℝ)) : EReal) := by
  unfold hot; split <;> simp

/-! ## Queries, values and buckets -/

/-- Column `e` of head `h` of a dense layer: row `i` of `x wᵀ + b`. -/
def proj (x : Fin 2048 → Fin 768 → EReal) (w : Fin 768 → Fin 768 → EReal) (b : Fin 768 → EReal) (h : Fin 12) (i : Fin 2048) (e : Fin 64) : EReal :=
  ∑ k : Fin 768, x i k * w ⟨h * 64 + e, by omega⟩ k + b ⟨h * 64 + e, by omega⟩

/-- The side of hyperplane `y` on which a query lies: the inner product of the query, extended by a one, with its column. -/
def side (q : Fin 64 → EReal) (p : Fin 65 → Fin 2 → EReal) (y : Fin 2) : EReal :=
  ∑ e : Fin 64, q e * p ⟨e, by omega⟩ y + p 64 y

/-- The number made of the two bits "is the inner product nonnegative". -/
def number (a b : EReal) : ℕ := (if 0 ≤ a then 1 else 0) + (if 0 ≤ b then 2 else 0)

/-- The bucket number of a query. -/
def code (q : Fin 64 → EReal) (p : Fin 65 → Fin 2 → EReal) : ℕ := number (side q p 0) (side q p 1)

/-- There are four buckets. -/
theorem number_lt (a b : EReal) : number a b < 4 := by
  unfold number; split <;> split <;> omega

/-- A dense layer of real numbers has real results. -/
theorem proj_real (x : Fin 2048 → Fin 768 → EReal) (w : Fin 768 → Fin 768 → EReal) (b : Fin 768 → EReal)
    (hx : ∀ i k, ∃ r : ℝ, x i k = r) (hw : ∀ i k, ∃ r : ℝ, w i k = r) (hb : ∀ i, ∃ r : ℝ, b i = r) (h : Fin 12) (i : Fin 2048) (e : Fin 64) :
    ∃ r : ℝ, proj x w b h i e = r := by
  choose x' hx using hx
  choose w' hw using hw
  choose b' hb using hb
  refine ⟨∑ k : Fin 768, x' i k * w' ⟨h * 64 + e, by omega⟩ k + b' ⟨h * 64 + e, by omega⟩, ?_⟩
  unfold proj
  simp only [hx, hw, hb, ← EReal.coe_mul, sum_coe, ← EReal.coe_add]

/-! ## One head of attention, in two ways -/

/-- The kernel's weight: two to the power of the scaled inner product times the mask. -/
def weight (c : EReal) (q : Fin 2048 → Fin 64 → EReal) (n : Fin 2048 → ℕ) (i j : Fin 2048) : EReal :=
  Ideal.exp2 ((∑ d : Fin 64, (q i d * c) * q j d) * ∑ b : Fin 4, hot (n i) b * hot (n j) b)

/-- The kernel's output: the weighted sum of the values times one over the sum of the weights. -/
def kernelOut (c : EReal) (q : Fin 2048 → Fin 64 → EReal) (n : Fin 2048 → ℕ) (v : Fin 2048 → EReal) (i : Fin 2048) : EReal :=
  (∑ j, weight c q n i j * v j) * Ideal.div 1 (∑ j, weight c q n i j)

/-- The reference's score: the inner products of the queries masked to each bucket, over the root of the width, summed. -/
def score (q : Fin 2048 → Fin 64 → EReal) (n : Fin 2048 → ℕ) (i j : Fin 2048) : EReal :=
  ∑ b : Fin 4, Ideal.div (∑ d : Fin 64, (hot (n i) b * q i d) * (hot (n j) b * q j d)) (Ideal.sqrt ((768 : ℝ) : EReal))

/-- The exponential of a score less the row's largest. -/
def expo (q : Fin 2048 → Fin 64 → EReal) (n : Fin 2048 → ℕ) (i j : Fin 2048) : EReal :=
  Ideal.exp (score q n i j - max ⊥ ((Finset.univ : Finset (Fin 2048)).fold max ⊥ fun k => score q n i k))

/-- The reference's output: the softmax of the scores against the values. -/
def referenceOut (q : Fin 2048 → Fin 64 → EReal) (n : Fin 2048 → ℕ) (v : Fin 2048 → EReal) (i : Fin 2048) : EReal :=
  ∑ j, Ideal.div (expo q n i j) (∑ k, expo q n i k) * v j

/-- The real score of two rows: their inner product over the root of the width within a bucket, zero outside of it. -/
def realScore (a : Fin 2048 → Fin 64 → ℝ) (n : Fin 2048 → ℕ) (i j : Fin 2048) : ℝ :=
  if n i = n j then (∑ d, a i d * a j d) / Real.sqrt 768 else 0

/-- With the exact scale `log₂ e / √768` the kernel's weight is the exponential of the real score. -/
theorem weight_eq (a : Fin 2048 → Fin 64 → ℝ) (n : Fin 2048 → ℕ) (hn : ∀ i, n i < 4) (i j : Fin 2048) :
    weight ((((Real.log 2)⁻¹ * (Real.sqrt 768)⁻¹ : ℝ)) : EReal) (fun i d => ((a i d : ℝ) : EReal)) n i j = ((Real.exp (realScore a n i j) : ℝ) : EReal) := by
  have h2 : Real.log 2 ≠ 0 := (Real.log_pos (by norm_num)).ne'
  unfold weight realScore
  rw [sum_hot (hn i) (hn j)]
  simp only [← EReal.coe_mul, sum_coe]
  split
  · rw [mul_one, Ideal.exp2_coe]
    congr 1
    show (2 : ℝ) ^ (_ : ℝ) = _
    rw [Real.rpow_def_of_pos (by norm_num)]
    congr 1
    rw [Finset.mul_sum, Finset.sum_div]
    refine Finset.sum_congr rfl fun d _ => ?_
    field_simp
  · rw [mul_zero, ← EReal.coe_zero, Ideal.exp2_coe]
    congr 1
    show (2 : ℝ) ^ (_ : ℝ) = _
    simp

/-- The reference's score of real queries is the real score. -/
theorem score_eq (a : Fin 2048 → Fin 64 → ℝ) (n : Fin 2048 → ℕ) (hn : ∀ i, n i < 4) (i j : Fin 2048) :
    score (fun i d => ((a i d : ℝ) : EReal)) n i j = ((realScore a n i j : ℝ) : EReal) := by
  have hs : Real.sqrt 768 ≠ 0 := (Real.sqrt_pos.mpr (by norm_num)).ne'
  unfold score realScore
  simp only [hot_coe, ← EReal.coe_mul, sum_coe, Ideal.sqrt_coe, show ¬(768 : ℝ) < 0 from by norm_num, ↓reduceIte,
    Ideal.div_coe hs]
  congr 1
  have hi := hn i
  have hj := hn j
  generalize n i = x at *
  generalize n j = y at *
  interval_cases x <;> interval_cases y <;> simp [Fin.sum_univ_four, div_eq_mul_inv]

/-- On real queries the kernel's output and the reference's are equal, for any values. -/
theorem kernelOut_eq (q : Fin 2048 → Fin 64 → EReal) (hq : ∀ i d, ∃ r : ℝ, q i d = r) (n : Fin 2048 → ℕ) (hn : ∀ i, n i < 4)
    (v : Fin 2048 → EReal) (i : Fin 2048) :
    kernelOut ((((Real.log 2)⁻¹ * (Real.sqrt 768)⁻¹ : ℝ)) : EReal) q n v i = referenceOut q n v i := by
  choose a ha using hq
  obtain rfl : q = fun i d => ((a i d : ℝ) : EReal) := funext fun i => funext fun d => ha i d
  obtain ⟨M, hM⟩ := exists_fold_max (Finset.univ : Finset (Fin 2048)) Finset.univ_nonempty (realScore a n i)
  unfold kernelOut referenceOut expo
  simp only [weight_eq a n hn, score_eq a n hn, hM]
  rw [max_eq_right bot_le]
  exact softmax_shift (realScore a n i) M v

end Cert.Attn

end
-- ==== Proof.Consts.lean ====
/- The float constants of the programs, as the extended reals they denote. -/
module

public import Idealize.ShloMosaic.PureOps.Ideal

@[expose] public section

noncomputable section

namespace Cert.Consts

open Idealize.ShloMosaic

/-- The constant the reference raises to the powers of the bucket code is the real `2`. -/
theorem ofBits_two : Ideal.ofBits .f32 0x40000000#32 = ((2 : ℝ) : EReal) := by
  simp [Ideal.ofBits, Ideal.ieee, -EReal.coe_mul]; norm_num

/-- The constant under the reference's root is the real `768`, the width of the embedding. -/
theorem ofBits_768 : Ideal.ofBits .f32 0x44400000#32 = ((768 : ℝ) : EReal) := by
  simp [Ideal.ofBits, Ideal.ieee, -EReal.coe_mul]; norm_num

/-- The start of the reference's row maximum is minus infinity. -/
theorem ofBits_neg_inf : Ideal.ofBits .f32 0xFF800000#32 = ⊥ := by
  simp [Ideal.ofBits, Ideal.ieee]

/-- The bound of the precondition is plus infinity. -/
theorem ofBits_inf : Ideal.ofBits .f32 0x7F800000#32 = ⊤ := by
  simp [Ideal.ofBits, Ideal.ieee]

end Cert.Consts

end
-- ==== Proof.Tile.lean ====
/- One tile of the kernel's block, read at an index: 512 rows of one head's output, from the rows' scaled queries, their
   one-hot bucket rows, and the head's keys, one-hot buckets and values with a column of ones. -/
module

public import proofs.«01_k».proof.Proof.Gen.KernelIdeal.Skeleton
public import Idealize.ShloMosaic.Lib.Pointwise
public import Idealize.ShloMosaic.Lib.Claim
public import proofs.«01_k».proof.Proof.Attn
public import proofs.«01_k».proof.Proof.Consts

@[expose] public section

set_option maxRecDepth 16384

noncomputable section

namespace Cert.KernelIdeal.Tile

open Cert.KernelIdeal Cert.KernelIdeal.Gen Idealize.ShloMosaic

/-- A tile of the output: the weights are the powers of two of the scores times the masks, the sum of the weighted
    values is divided by the weights' own sum, which the product with the column of ones computes beside it. -/
def tile (qs : FVec Ideal S512x64 .bf16) (ohs : FVec Ideal S512x4 .bf16) (oh : FVec Ideal S2048x4 .bf16)
    (qk : FVec Ideal S2048x64 .bf16) (vx : FVec Ideal S2048x65 .bf16) : FVec Ideal S512x64 .f32 :=
  have s : FVec Ideal S512x2048 .f32 := matmul dot_S512x64_S2048x64_S512x2048_1_1_0_0_n_n none qs qk (constant S512x2048 .f32 0x00000000#32)
  have k : FVec Ideal S512x2048 .f32 := matmul dot_S512x4_S2048x4_S512x2048_1_1_0_0_n_n none ohs oh (constant S512x2048 .f32 0x00000000#32)
  have p : FVec Ideal S512x2048 .bf16 := truncf .bf16 (exp2 (mulf s k)) bitsLt_bf16_f32
  have av : FVec Ideal S512x65 .f32 := matmul dot_S512x2048_S2048x65_S512x65_1_0_0_1_n_n none p vx (constant S512x65 .f32 0x00000000#32)
  mulf (extractStridedSlice S512x64 ![0, 0] av slices_S512x65_o0_0_S512x64)
    (broadcastTo S512x64 (divf (broadcast S512x1 (Scalar.ofBits .f32 0x3F800000#32))
      (extractStridedSlice S512x1 ![0, 64] av slices_S512x65_o0_64_S512x1)) broadcasts_S512x1_S512x64)

/-- A tile at row `r` and column `e`: the weighted sum of the values, times one over the weighted sum of the last column. -/
theorem tile_apply (qs : FVec Ideal S512x64 .bf16) (ohs : FVec Ideal S512x4 .bf16) (oh : FVec Ideal S2048x4 .bf16)
    (qk : FVec Ideal S2048x64 .bf16) (vx : FVec Ideal S2048x65 .bf16) (r : Fin 512) (e : Fin 64) :
    tile qs ohs oh qk vx (ix2 r e) =
      (∑ j : Fin 2048, Ideal.exp2 ((∑ d : Fin 64, qs (ix2 r d) * qk (ix2 j d)) * ∑ b : Fin 4, ohs (ix2 r b) * oh (ix2 j b)) * vx (ix2 j ⟨e, by omega⟩))
      * Ideal.div 1 (∑ j : Fin 2048, Ideal.exp2 ((∑ d : Fin 64, qs (ix2 r d) * qk (ix2 j d)) * ∑ b : Fin 4, ohs (ix2 r b) * oh (ix2 j b)) * vx (ix2 j 64)) := by
  pointwise [tile]
  rfl

/-! ## The queries and values of a head, and its buckets -/

/-- The named constant's value: the binary logarithm of `e` over the square root of the width. -/
theorem scale_eq : (Named.named (F := Ideal) (φ := .f32) κ "log2e_over_sqrt" 0x3D553B95#32 : Ideal .f32) = (((Real.log 2)⁻¹ * (Real.sqrt 768)⁻¹ : ℝ) : EReal) :=
  IdealRules.named_const.ideal_named_scalar _ _ _ _ rfl

/-- The scaled queries. -/
theorem scaled_apply (q : FVec Ideal S2048x64 .f32) (j : Fin 2048) (e : Fin 64) :
    k0_pay11 q (ix2 j e) = q (ix2 j e) * (((Real.log 2)⁻¹ * (Real.sqrt 768)⁻¹ : ℝ) : EReal) := by
  pointwise [k0_pay11]
  rw [scale_eq]

/-- The values with their column of ones, at a column of the values. -/
theorem vext_apply (v : FVec Ideal S2048x64 .f32) (j : Fin 2048) (e : Fin 64) :
    k0_pay13 (k0_pay6 (F := Ideal)) v (ix2 j ⟨e, by omega⟩) = v (ix2 j e) := by
  pointwise [k0_pay13, k0_pay6]

/-- The column of ones. -/
theorem vext_apply_last (v : FVec Ideal S2048x64 .f32) (j : Fin 2048) :
    k0_pay13 (k0_pay6 (F := Ideal)) v (ix2 j 64) = 1 := by
  pointwise [k0_pay13, k0_pay6]

/-- The bucket words of a head: the bit of the first hyperplane plus twice the bit of the second. -/
def codes (q : FVec Ideal S2048x64 .f32) (p : Vec Ideal S65x2 .f32) : IVec S2048x4 32 :=
  have a : FVec Ideal S2048x2 .f32 := matmul dot_S2048x64_S64x2_S2048x2_1_0_0_1_n_n (φ₂ := .f32) none q (extractStridedSlice (α := Ideal .f32) S64x2 ![0, 0] p slices_S65x2_o0_0_S64x2) (constant S2048x2 .f32 0x00000000#32)
  have b : FVec Ideal S2048x2 .f32 := addf a (broadcastTo S2048x2 (extractStridedSlice (α := Ideal .f32) S1x2 ![64, 0] p slices_S65x2_o64_0_S1x2) broadcasts_S1x2_S2048x2)
  have c : IVec S2048x2 32 := extui 32 (cmpf .oge b (broadcast S2048x2 (Scalar.ofBits .f32 0x00000000#32))) natLt_1_32
  broadcastTo S2048x4 (addi (extractStridedSlice S2048x1 ![0, 0] c slices_S2048x2_o0_0_S2048x1)
    (muli (broadcast S2048x1 2#32) (extractStridedSlice S2048x1 ![0, 1] c slices_S2048x2_o0_1_S2048x1))) broadcasts_S2048x1_S2048x4

/-- The one-hot bucket rows of a head. -/
def buckets (q : FVec Ideal S2048x64 .f32) (p : Vec Ideal S65x2 .f32) : FVec Ideal S2048x4 .bf16 :=
  k0_pay10 (F := Ideal) (iota .tc S2048x4 32 [1] iota_S2048x4_d1_w32) (codes q p)

/-- The word of two bits is the number they make. -/
theorem codes_apply (q : FVec Ideal S2048x64 .f32) (p : Vec Ideal S65x2 .f32) (j : Fin 2048) (e : Fin 4) :
    codes q p (ix2 j e) = BitVec.ofNat 32 (Attn.code (fun d => q (ix2 j d)) (fun d y => p (ix2 d y))) := by
  pointwise [codes]
  unfold Attn.code Attn.number
  change IntOp.addi (BitVec.setWidth 32 (BitVec.ofBool (decide (0 ≤ Attn.side (fun d => q (ix2 j d)) (fun d y => p (ix2 d y)) 0))))
    (IntOp.muli 2#32 (BitVec.setWidth 32 (BitVec.ofBool (decide (0 ≤ Attn.side (fun d => q (ix2 j d)) (fun d y => p (ix2 d y)) 1))))) = _
  split <;> split <;> simp [*] <;> decide

/-- The one-hot row of a query's bucket number. -/
theorem buckets_apply (q : FVec Ideal S2048x64 .f32) (p : Vec Ideal S65x2 .f32) (j : Fin 2048) (b : Fin 4) :
    buckets q p (ix2 j b) = Attn.hot (Attn.code (fun d => q (ix2 j d)) (fun d y => p (ix2 d y))) b := by
  pointwise [buckets, k0_pay10]
  rw [codes_apply]
  generalize hn : Attn.code (fun d => q (ix2 j d)) (fun d y => p (ix2 d y)) = n
  have h4 : n < 4 := hn ▸ Attn.number_lt _ _
  unfold Attn.hot
  interval_cases n <;> fin_cases b <;> simp [IntOp.cmpi, FloatOps.sitofp]

/-! ## A tile of a head -/

/-- The tile of a head's rows from `o` on. -/
def rows (o : ℕ) (h₁ : S2048x64.Slices ![o, 0] S512x64) (h₂ : S2048x4.Slices ![o, 0] S512x4)
    (q v : FVec Ideal S2048x64 .f32) (p : Vec Ideal S65x2 .f32) : FVec Ideal S512x64 .f32 :=
  tile (extractStridedSlice S512x64 ![o, 0] (k0_pay11 q) h₁) (extractStridedSlice S512x4 ![o, 0] (buckets q p) h₂) (buckets q p)
    (k0_pay12 q) (k0_pay13 (k0_pay6 (F := Ideal)) v)

/-- A slice of 512 rows, at an index. -/
theorem slice64_apply (o : ℕ) (h : S2048x64.Slices ![o, 0] S512x64) (ho : o + 512 ≤ 2048) (x : FVec Ideal S2048x64 .bf16) (r : Fin 512) (e : Fin 64) :
    extractStridedSlice S512x64 ![o, 0] x h (ix2 r e) = x (ix2 ⟨o + r, by omega⟩ e) := by
  exact extractStridedSlice_apply _ x h _ _ fun a => match a with
    | ⟨0, _⟩ => rfl
    | ⟨1, _⟩ => (Nat.zero_add _).symm

/-- A slice of 512 rows, at an index. -/
theorem slice4_apply (o : ℕ) (h : S2048x4.Slices ![o, 0] S512x4) (ho : o + 512 ≤ 2048) (x : FVec Ideal S2048x4 .bf16) (r : Fin 512) (e : Fin 4) :
    extractStridedSlice S512x4 ![o, 0] x h (ix2 r e) = x (ix2 ⟨o + r, by omega⟩ e) := by
  exact extractStridedSlice_apply _ x h _ _ fun a => match a with
    | ⟨0, _⟩ => rfl
    | ⟨1, _⟩ => (Nat.zero_add _).symm

/-- The keys are the queries. -/
theorem keys_apply (q : FVec Ideal S2048x64 .f32) (j : Fin 2048) (e : Fin 64) : k0_pay12 q (ix2 j e) = q (ix2 j e) := by
  pointwise [k0_pay12]

/-- A TILE OF A HEAD AT AN INDEX: the attention within buckets, in the kernel's form. -/
theorem rows_apply (o : ℕ) (h₁ : S2048x64.Slices ![o, 0] S512x64) (h₂ : S2048x4.Slices ![o, 0] S512x4) (ho : o + 512 ≤ 2048)
    (q v : FVec Ideal S2048x64 .f32) (p : Vec Ideal S65x2 .f32) (r : Fin 512) (e : Fin 64) :
    rows o h₁ h₂ q v p (ix2 r e) =
      Attn.kernelOut (((Real.log 2)⁻¹ * (Real.sqrt 768)⁻¹ : ℝ) : EReal) (fun i d => q (ix2 i d)) (fun i => Attn.code (fun d => q (ix2 i d)) (fun d y => p (ix2 d y)))
        (fun j => v (ix2 j e)) ⟨o + r, by omega⟩ := by
  unfold rows Attn.kernelOut Attn.weight
  rw [tile_apply]
  simp only [slice64_apply o h₁ ho, slice4_apply o h₂ ho, scaled_apply, buckets_apply, keys_apply, vext_apply, vext_apply_last, mul_one]

/-! ## The projections of a grid point's two heads -/

/-- The queries of a grid point's two heads. -/
theorem queries_apply (x : Vec Ideal S2048x768 .f32) (w : Vec Ideal S1x128x768 .f32) (b : Vec Ideal S1x1x128 .f32) (j : Fin 2048) (e : Fin 128) :
    k0_pay4 x w b (ix2 j e) = ∑ k : Fin 768, x (ix2 j k) * w (ix3 0 e k) + b (ix3 0 0 e) := by
  pointwise [k0_pay4, k0_pay3]

/-- The values of a grid point's two heads. -/
theorem values_apply (x : Vec Ideal S2048x768 .f32) (w : Vec Ideal S1x128x768 .f32) (b : Vec Ideal S1x1x128 .f32) (j : Fin 2048) (e : Fin 128) :
    k0_pay5 x w b (ix2 j e) = ∑ k : Fin 768, x (ix2 j k) * w (ix3 0 e k) + b (ix3 0 0 e) := by
  pointwise [k0_pay5, k0_pay3]

end Cert.KernelIdeal.Tile

end
-- ==== Proof.Block.lean ====
/- What the kernel's body leaves in its output block, read at an index: eight tiles, four rows of tiles of each of the grid
   point's two heads, each the attention within buckets of its head. -/
module

public import proofs.«01_k».proof.Proof.Gen.KernelIdeal.Frame
public import proofs.«01_k».proof.Proof.Tile
public import Idealize.ShloMosaic.Lib.Pipeline.ValueKit

@[expose] public section

set_option maxRecDepth 16384

noncomputable section

namespace Cert.KernelIdeal.Block

open Cert.KernelIdeal Cert.KernelIdeal.Gen Cert.KernelIdeal.Tile Idealize.ShloMosaic

variable (x : Vec Ideal S2048x768 .f32) (wq : Vec Ideal S1x128x768 .f32) (bq : Vec Ideal S1x1x128 .f32) (wv : Vec Ideal S1x128x768 .f32) (bv : Vec Ideal S1x1x128 .f32) (p : Vec Ideal S65x2 .f32)

/-- The queries (or values) of head `g` of the grid point's two, from the whole projection's columns. -/
def half (y : FVec Ideal S2048x128 .f32) (g : Fin 2) (i : Fin 2048) (d : Fin 64) : EReal := y (ix2 i ⟨g * 64 + d, by omega⟩)

/-- The attention within buckets of head `g` of the grid point's two, at row `i` and column `e`. -/
def attend (g : Fin 2) (i : Fin 2048) (e : Fin 64) : EReal :=
  Attn.kernelOut (((Real.log 2)⁻¹ * (Real.sqrt 768)⁻¹ : ℝ) : EReal) (half (k0_pay4 x wq bq) g)
    (fun i => Attn.code (half (k0_pay4 x wq bq) g i) (fun d y => p (ix2 d y))) (fun j => half (k0_pay5 x wv bv) g j e) i

/-- The bucket words of the first head, as the body computes them. -/
theorem codes_first : k0_pay9 x wq bq p = codes (k0_pay7 x wq bq) p := rfl

/-- The bucket rows of the first head, as the body computes them. -/
theorem buckets_first (q : FVec Ideal S2048x64 .f32) : k0_pay10 (F := Ideal) (iota .tc S2048x4 32 [1] iota_S2048x4_d1_w32) (codes q p) = buckets q p := rfl

/-- The bucket rows of the second head, as the body computes them. -/
theorem buckets_second (y : FVec Ideal S2048x128 .f32) : k0_pay23 (F := Ideal) (k0_pay22 p y (iota .tc S2048x4 32 [1] iota_S2048x4_d1_w32)) = buckets (k0_pay20 y) p := rfl

/-- The first head's tile at row 0. -/
theorem tile0 (q v : FVec Ideal S2048x64 .f32) :
    k0_pay14 (iota .tc S2048x4 32 [1] iota_S2048x4_d1_w32) (k0_pay6 (F := Ideal)) q v (codes q p) = rows 0 slices_S2048x64_o0_0_S512x64 slices_S2048x4_o0_0_S512x4 q v p := rfl

/-- The first head's tile at row 512. -/
theorem tile1 (q v : FVec Ideal S2048x64 .f32) :
    k0_pay15 (iota .tc S2048x4 32 [1] iota_S2048x4_d1_w32) (k0_pay6 (F := Ideal)) q v (codes q p) = rows 512 slices_S2048x64_o512_0_S512x64 slices_S2048x4_o512_0_S512x4 q v p := rfl

/-- The first head's tile at row 1024. -/
theorem tile2 (q v : FVec Ideal S2048x64 .f32) :
    k0_pay18 (buckets q p) (k0_pay13 (k0_pay6 (F := Ideal)) v) (k0_pay16 q) (k0_pay17 (F := Ideal) (iota .tc S2048x4 32 [1] iota_S2048x4_d1_w32) (codes q p)) (constant S512x2048 .f32 0x00000000#32)
      = rows 1024 slices_S2048x64_o1024_0_S512x64 slices_S2048x4_o1024_0_S512x4 q v p := rfl

/-- The first head's tile at row 1536. -/
theorem tile3 (q v : FVec Ideal S2048x64 .f32) :
    k0_pay19 (buckets q p) (k0_pay11 q) (k0_pay12 q) (k0_pay13 (k0_pay6 (F := Ideal)) v) = rows 1536 slices_S2048x64_o1536_0_S512x64 slices_S2048x4_o1536_0_S512x4 q v p := rfl

/-- The second head's tile at row 0. -/
theorem tile4 (y : FVec Ideal S2048x128 .f32) (v : FVec Ideal S2048x64 .f32) :
    k0_pay27 (k0_pay6 (F := Ideal)) (k0_pay20 y) v (k0_pay22 p y (iota .tc S2048x4 32 [1] iota_S2048x4_d1_w32)) = rows 0 slices_S2048x64_o0_0_S512x64 slices_S2048x4_o0_0_S512x4 (k0_pay20 y) v p := rfl

/-- The second head's tile at row 512. -/
theorem tile5 (y : FVec Ideal S2048x128 .f32) (v : FVec Ideal S2048x64 .f32) :
    k0_pay28 (k0_pay6 (F := Ideal)) (k0_pay20 y) v (k0_pay22 p y (iota .tc S2048x4 32 [1] iota_S2048x4_d1_w32)) = rows 512 slices_S2048x64_o512_0_S512x64 slices_S2048x4_o512_0_S512x4 (k0_pay20 y) v p := rfl

/-- The second head's tile at row 1024. -/
theorem tile6 (y : FVec Ideal S2048x128 .f32) (v : FVec Ideal S2048x64 .f32) :
    k0_pay1 (k0_pay26 (k0_pay6 (F := Ideal)) v) (k0_pay29 (k0_pay20 y) (k0_pay22 p y (iota .tc S2048x4 32 [1] iota_S2048x4_d1_w32)))
      = rows 1024 slices_S2048x64_o1024_0_S512x64 slices_S2048x4_o1024_0_S512x4 (k0_pay20 y) v p := rfl

/-- The second head's tile at row 1536. -/
theorem tile7 (q v : FVec Ideal S2048x64 .f32) :
    k0_pay2 (buckets q p) (k0_pay24 q) (k0_pay25 q) (k0_pay26 (k0_pay6 (F := Ideal)) v) = rows 1536 slices_S2048x64_o1536_0_S512x64 slices_S2048x4_o1536_0_S512x4 q v p := rfl

/-- Two lists of stores with equal heads' values and equal tails are equal. -/
theorem cons_eq (r : Rect S2048x128) {a b : r.shape.Idx → Elt Ideal .f32} {L L' : List (View.Piece (Elt Ideal) S2048x128 .f32)} (h : a = b) (hL : L = L') :
    (⟨r, a⟩ : View.Piece (Elt Ideal) S2048x128 .f32) :: L = ⟨r, b⟩ :: L' := by subst h hL; rfl

/-- The eight stores of the body: each is a tile of a head's rows. -/
theorem out_eq : out0_6 x wq bq wv bv p = View.canon
    [⟨r0_11, rows 1536 slices_S2048x64_o1536_0_S512x64 slices_S2048x4_o1536_0_S512x4 (k0_pay20 (k0_pay4 x wq bq)) (k0_pay21 (k0_pay5 x wv bv)) p⟩,
     ⟨r0_10, rows 1024 slices_S2048x64_o1024_0_S512x64 slices_S2048x4_o1024_0_S512x4 (k0_pay20 (k0_pay4 x wq bq)) (k0_pay21 (k0_pay5 x wv bv)) p⟩,
     ⟨r0_9, rows 512 slices_S2048x64_o512_0_S512x64 slices_S2048x4_o512_0_S512x4 (k0_pay20 (k0_pay4 x wq bq)) (k0_pay21 (k0_pay5 x wv bv)) p⟩,
     ⟨r0_8, rows 0 slices_S2048x64_o0_0_S512x64 slices_S2048x4_o0_0_S512x4 (k0_pay20 (k0_pay4 x wq bq)) (k0_pay21 (k0_pay5 x wv bv)) p⟩,
     ⟨r0_7, rows 1536 slices_S2048x64_o1536_0_S512x64 slices_S2048x4_o1536_0_S512x4 (k0_pay7 x wq bq) (k0_pay8 x wv bv) p⟩,
     ⟨r0_6, rows 1024 slices_S2048x64_o1024_0_S512x64 slices_S2048x4_o1024_0_S512x4 (k0_pay7 x wq bq) (k0_pay8 x wv bv) p⟩,
     ⟨r0_5, rows 512 slices_S2048x64_o512_0_S512x64 slices_S2048x4_o512_0_S512x4 (k0_pay7 x wq bq) (k0_pay8 x wv bv) p⟩,
     ⟨r0_4, rows 0 slices_S2048x64_o0_0_S512x64 slices_S2048x4_o0_0_S512x4 (k0_pay7 x wq bq) (k0_pay8 x wv bv) p⟩] := by
  unfold_out out0_6
  rw [show View.ld x r0_0 = x from View.ld_unit_zero (funext fun a => by fin_cases a <;> rfl) _ _, show View.ld wq r0_1 = wq from View.ld_unit_zero (funext fun a => by fin_cases a <;> rfl) _ _,
    show View.ld wv r0_1 = wv from View.ld_unit_zero (funext fun a => by fin_cases a <;> rfl) _ _, show View.ld bq r0_2 = bq from View.ld_unit_zero (funext fun a => by fin_cases a <;> rfl) _ _,
    show View.ld bv r0_2 = bv from View.ld_unit_zero (funext fun a => by fin_cases a <;> rfl) _ _, show View.ld p r0_3 = p from View.ld_unit_zero (funext fun a => by fin_cases a <;> rfl) _ _, codes_first]
  exact congrArg View.canon (cons_eq r0_11 (tile7 p _ _) (cons_eq r0_10 (tile6 p _ _) (cons_eq r0_9 (tile5 p _ _) (cons_eq r0_8 (tile4 p _ _)
    (cons_eq r0_7 (tile3 p _ _) (cons_eq r0_6 (tile2 p _ _) (cons_eq r0_5 (tile1 p _ _) (cons_eq r0_4 (tile0 p _ _) rfl))))))))

/-- The first head's queries are the first 64 columns. -/
theorem first_queries (i : Fin 2048) (d : Fin 64) : k0_pay7 x wq bq (ix2 i d) = half (k0_pay4 x wq bq) 0 i d :=
  extractStridedSlice_apply ![0, 0] (k0_pay4 x wq bq) slices_S2048x128_o0_0_S2048x64 (ix2 i d) (ix2 i ⟨((0 : Fin 2) : ℕ) * 64 + d, by omega⟩) fun a => match a with
    | ⟨0, _⟩ => (Nat.zero_add _).symm
    | ⟨1, _⟩ => by simp [ix2]

/-- The first head's values are the first 64 columns. -/
theorem first_values (i : Fin 2048) (d : Fin 64) : k0_pay8 x wv bv (ix2 i d) = half (k0_pay5 x wv bv) 0 i d :=
  extractStridedSlice_apply ![0, 0] (k0_pay5 x wv bv) slices_S2048x128_o0_0_S2048x64 (ix2 i d) (ix2 i ⟨((0 : Fin 2) : ℕ) * 64 + d, by omega⟩) fun a => match a with
    | ⟨0, _⟩ => (Nat.zero_add _).symm
    | ⟨1, _⟩ => by simp [ix2]

/-- The second head's queries are the last 64 columns. -/
theorem second_queries (i : Fin 2048) (d : Fin 64) : k0_pay20 (k0_pay4 x wq bq) (ix2 i d) = half (k0_pay4 x wq bq) 1 i d :=
  extractStridedSlice_apply ![0, 64] (k0_pay4 x wq bq) slices_S2048x128_o0_64_S2048x64 (ix2 i d) (ix2 i ⟨((1 : Fin 2) : ℕ) * 64 + d, by omega⟩) fun a => match a with
    | ⟨0, _⟩ => (Nat.zero_add _).symm
    | ⟨1, _⟩ => by simp [ix2]

/-- The second head's values are the last 64 columns. -/
theorem second_values (i : Fin 2048) (d : Fin 64) : k0_pay21 (k0_pay5 x wv bv) (ix2 i d) = half (k0_pay5 x wv bv) 1 i d :=
  extractStridedSlice_apply ![0, 64] (k0_pay5 x wv bv) slices_S2048x128_o0_64_S2048x64 (ix2 i d) (ix2 i ⟨((1 : Fin 2) : ℕ) * 64 + d, by omega⟩) fun a => match a with
    | ⟨0, _⟩ => (Nat.zero_add _).symm
    | ⟨1, _⟩ => by simp [ix2]

/-- A tile of the first head. -/
theorem first_rows (o : ℕ) (h₁ : S2048x64.Slices ![o, 0] S512x64) (h₂ : S2048x4.Slices ![o, 0] S512x4) (ho : o + 512 ≤ 2048) (r : Fin 512) (e : Fin 64) :
    rows o h₁ h₂ (k0_pay7 x wq bq) (k0_pay8 x wv bv) p (ix2 r e) = attend x wq bq wv bv p 0 ⟨o + r, by omega⟩ e := by
  rw [rows_apply o h₁ h₂ ho]
  unfold attend
  simp only [first_queries, first_values]

/-- A tile of the second head. -/
theorem second_rows (o : ℕ) (h₁ : S2048x64.Slices ![o, 0] S512x64) (h₂ : S2048x4.Slices ![o, 0] S512x4) (ho : o + 512 ≤ 2048) (r : Fin 512) (e : Fin 64) :
    rows o h₁ h₂ (k0_pay20 (k0_pay4 x wq bq)) (k0_pay21 (k0_pay5 x wv bv)) p (ix2 r e) = attend x wq bq wv bv p 1 ⟨o + r, by omega⟩ e := by
  rw [rows_apply o h₁ h₂ ho]
  unfold attend
  simp only [second_queries, second_values]

/-- A tile of the first head, at an index of the tile and the row and column of the block it is stored at. -/
theorem first_at (o : ℕ) (h₁ : S2048x64.Slices ![o, 0] S512x64) (h₂ : S2048x4.Slices ![o, 0] S512x4) (ho : o + 512 ≤ 2048) (z : S512x64.Idx)
    (i : Fin 2048) (c : Fin 128) (hi : (i : ℕ) = o + (z 0 : ℕ)) (hc : (c : ℕ) = (z 1 : ℕ)) :
    rows o h₁ h₂ (k0_pay7 x wq bq) (k0_pay8 x wv bv) p z = attend x wq bq wv bv p ⟨c / 64, by omega⟩ i ⟨c % 64, by omega⟩ := by
  have hz : (z 1 : ℕ) < 64 := (z 1).isLt
  have e : z = ix2 (z 0) (z 1) := funext fun a => by fin_cases a <;> rfl
  refine (congrArg _ e).trans ((first_rows x wq bq wv bv p o h₁ h₂ ho (z 0) (z 1)).trans ?_)
  congr 1
  · exact Fin.ext (show 0 = (c : ℕ) / 64 by omega)
  · exact Fin.ext hi.symm
  · exact Fin.ext (show (z 1 : ℕ) = (c : ℕ) % 64 by omega)

/-- A tile of the second head, at an index of the tile and the row and column of the block it is stored at. -/
theorem second_at (o : ℕ) (h₁ : S2048x64.Slices ![o, 0] S512x64) (h₂ : S2048x4.Slices ![o, 0] S512x4) (ho : o + 512 ≤ 2048) (z : S512x64.Idx)
    (i : Fin 2048) (c : Fin 128) (hi : (i : ℕ) = o + (z 0 : ℕ)) (hc : (c : ℕ) = 64 + (z 1 : ℕ)) :
    rows o h₁ h₂ (k0_pay20 (k0_pay4 x wq bq)) (k0_pay21 (k0_pay5 x wv bv)) p z = attend x wq bq wv bv p ⟨c / 64, by omega⟩ i ⟨c % 64, by omega⟩ := by
  have hz : (z 1 : ℕ) < 64 := (z 1).isLt
  have e : z = ix2 (z 0) (z 1) := funext fun a => by fin_cases a <;> rfl
  refine (congrArg _ e).trans ((second_rows x wq bq wv bv p o h₁ h₂ ho (z 0) (z 1)).trans ?_)
  congr 1
  · exact Fin.ext (show 1 = (c : ℕ) / 64 by omega)
  · exact Fin.ext hi.symm
  · exact Fin.ext (show (z 1 : ℕ) = (c : ℕ) % 64 by omega)

/-- THE OUTPUT BLOCK AT AN INDEX: the attention within buckets of the head the column belongs to. -/
theorem out_apply (i : Fin 2048) (c : Fin 128) :
    out0_6 x wq bq wv bv p (ix2 i c) = attend x wq bq wv bv p ⟨c / 64, by omega⟩ i ⟨c % 64, by omega⟩ := by
  rw [out_eq]
  canon_tiles z h using cover0_6 ..
  · exact second_at x wq bq wv bv p 1536 _ _ (by decide) z i c h0 h1
  · exact second_at x wq bq wv bv p 1024 _ _ (by decide) z i c h0 h1
  · exact second_at x wq bq wv bv p 512 _ _ (by decide) z i c h0 h1
  · exact second_at x wq bq wv bv p 0 _ _ (by decide) z i c (h0.trans (Nat.zero_add _).symm) h1
  · exact first_at x wq bq wv bv p 1536 _ _ (by decide) z i c h0 h1
  · exact first_at x wq bq wv bv p 1024 _ _ (by decide) z i c h0 h1
  · exact first_at x wq bq wv bv p 512 _ _ (by decide) z i c h0 h1
  · exact first_at x wq bq wv bv p 0 _ _ (by decide) z i c (h0.trans (Nat.zero_add _).symm) h1

end Cert.KernelIdeal.Block

end
-- ==== Proof.KArr.lean ====
/- The kernel's result array as one function of its argument arrays, index by index. -/
module

public import proofs.«01_k».proof.Proof.Block
public import Idealize.ShloMosaic.Lib.Pipeline.ValueKit

@[expose] public section

set_option maxRecDepth 16384

noncomputable section

namespace Cert.KernelIdeal.KArr

open Cert.KernelIdeal Cert.KernelIdeal.Gen Cert.KernelIdeal.Block Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The input blocks -/

/-- The blocks of the query weights step with the grid point. -/
theorem idx1 : ∀ t : Fin cfg0.N, win0_1.index t = ![t.val, 0, 0] := (by decide +kernel : ∀ t : Fin grid0.N, win0_1.index t = ![t.val, 0, 0])
/-- So do the blocks of the query bias. -/
theorem idx2 : ∀ t : Fin cfg0.N, win0_2.index t = ![t.val, 0, 0] := (by decide +kernel : ∀ t : Fin grid0.N, win0_2.index t = ![t.val, 0, 0])
/-- So do the blocks of the value weights. -/
theorem idx3 : ∀ t : Fin cfg0.N, win0_3.index t = ![t.val, 0, 0] := (by decide +kernel : ∀ t : Fin grid0.N, win0_3.index t = ![t.val, 0, 0])
/-- So do the blocks of the value bias. -/
theorem idx4 : ∀ t : Fin cfg0.N, win0_4.index t = ![t.val, 0, 0] := (by decide +kernel : ∀ t : Fin grid0.N, win0_4.index t = ![t.val, 0, 0])
/-- The result's block at point `t` is column block `t`. -/
theorem idx6 : ∀ t : Fin cfg0.N, win0_6.index t = ![0, t.val] := (by decide +kernel : ∀ t : Fin grid0.N, win0_6.index t = ![0, t.val])
/-- The input rows are one block, the same at every point. -/
theorem idx0 : ∀ t : Fin cfg0.N, win0_0.index t = ![0, 0] := (by decide +kernel : ∀ t : Fin grid0.N, win0_0.index t = ![0, 0])
/-- The hyperplanes are one block, the same at every point. -/
theorem idx5 : ∀ t : Fin cfg0.N, win0_5.index t = ![0, 0] := (by decide +kernel : ∀ t : Fin grid0.N, win0_5.index t = ![0, 0])

/-- There are six grid points. -/
theorem lt6 (t : Fin cfg0.N) : (t : ℕ) < 6 := t.isLt

/-! ### The windowed arrays are the arguments, reshaped -/

/-- The array of input rows is the first argument without its leading axis. -/
theorem V_v0 (c : Dev nD) : V m c main_v0 = shapeCast S2048x768 (m ((c : Thread nD τ).loc main_arg0)) shapeCasts_S1x2048x768_S2048x768 := by
  show StableHlo.after hostOps0 (fun b => m (c, b)) (Proc.devRef .tc main_v0) = _
  after_results
  rfl

/-- The array of query weights is the second argument, its rows grouped by 128. -/
theorem V_v1 (c : Dev nD) : V m c main_v1 = shapeCast S6x128x768 (m ((c : Thread nD τ).loc main_arg1)) shapeCasts_S768x768_S6x128x768 := by
  show StableHlo.after hostOps0 (fun b => m (c, b)) (Proc.devRef .tc main_v1) = _
  after_results
  rfl

/-- The array of value weights is the fourth argument, its rows grouped by 128. -/
theorem V_v2 (c : Dev nD) : V m c main_v2 = shapeCast S6x128x768 (m ((c : Thread nD τ).loc main_arg3)) shapeCasts_S768x768_S6x128x768 := by
  show StableHlo.after hostOps0 (fun b => m (c, b)) (Proc.devRef .tc main_v2) = _
  after_results
  rfl

/-- The array of query biases is the third argument, grouped by 128. -/
theorem V_v3 (c : Dev nD) : V m c main_v3 = shapeCast S6x1x128 (m ((c : Thread nD τ).loc main_arg2)) shapeCasts_S768_S6x1x128 := by
  show StableHlo.after hostOps0 (fun b => m (c, b)) (Proc.devRef .tc main_v3) = _
  after_results
  rfl

/-- The array of value biases is the fifth argument, grouped by 128. -/
theorem V_v4 (c : Dev nD) : V m c main_v4 = shapeCast S6x1x128 (m ((c : Thread nD τ).loc main_arg4)) shapeCasts_S768_S6x1x128 := by
  show StableHlo.after hostOps0 (fun b => m (c, b)) (Proc.devRef .tc main_v4) = _
  after_results
  rfl

/-! ### The reshapes, read at an index -/

/-- Dropping the leading axis of length one keeps the entries. -/
theorem cast0 (x : Vec Ideal S1x2048x768 .f32) (i : Fin 2048) (k : Fin 768) :
    shapeCast (α := Ideal .f32) S2048x768 x shapeCasts_S1x2048x768_S2048x768 (ix2 i k) = x (ix3 0 i k) := by
  pointwise

/-- In a matrix whose rows are grouped by 128, row `e` of group `t` is row `128 t + e`. -/
theorem cast1 (x : Vec Ideal S768x768 .f32) (t : ℕ) (ht : t < 6) (e : Fin 128) (k : Fin 768) :
    shapeCast (α := Ideal .f32) S6x128x768 x shapeCasts_S768x768_S6x128x768 (ix3 ⟨t, ht⟩ e k) = x (ix2 ⟨t * 128 + e, by omega⟩ k) := by
  pointwise

/-- In a vector grouped by 128, entry `e` of group `t` is entry `128 t + e`. -/
theorem cast2 (x : Vec Ideal S768 .f32) (t : ℕ) (ht : t < 6) (e : Fin 128) :
    shapeCast (α := Ideal .f32) S6x1x128 x shapeCasts_S768_S6x1x128 (ix3 ⟨t, ht⟩ 0 e) = x (ix1 ⟨t * 128 + e, by omega⟩) := by
  pointwise

/-! ### The blocks -/

/-- The input rows at every point are the first argument. -/
theorem block0 (c : Dev nD) (t : Fin cfg0.N) (i : Fin 2048) (k : Fin 768) :
    iblk m c 0 t (ix2 i k) = m ((c : Thread nD τ).loc main_arg0) (ix3 0 i k) := by
  have he : (win0_0.blk t).view.emb (ix2 i k) = ix2 i k := by blk_ext [idx0 t]
  exact (congrArg (V m c main_v0) he).trans ((congrFun (V_v0 m c) _).trans (cast0 _ i k))

/-- The query weights at point `t` are rows `128 t` to `128 t + 127` of the second argument. -/
theorem block1 (c : Dev nD) (t : Fin cfg0.N) (e : Fin 128) (k : Fin 768) :
    iblk m c 1 t (ix3 0 e k) = m ((c : Thread nD τ).loc main_arg1) (ix2 ⟨t * 128 + e, by have := lt6 t; omega⟩ k) := by
  have he : (win0_1.blk t).view.emb (ix3 0 e k) = ix3 ⟨t, lt6 t⟩ e k := by blk_ext [idx1 t]
  exact (congrArg (V m c main_v1) he).trans ((congrFun (V_v1 m c) _).trans (cast1 _ t (lt6 t) e k))

/-- The value weights at point `t` are rows `128 t` to `128 t + 127` of the fourth argument. -/
theorem block3 (c : Dev nD) (t : Fin cfg0.N) (e : Fin 128) (k : Fin 768) :
    iblk m c 3 t (ix3 0 e k) = m ((c : Thread nD τ).loc main_arg3) (ix2 ⟨t * 128 + e, by have := lt6 t; omega⟩ k) := by
  have he : (win0_3.blk t).view.emb (ix3 0 e k) = ix3 ⟨t, lt6 t⟩ e k := by blk_ext [idx3 t]
  exact (congrArg (V m c main_v2) he).trans ((congrFun (V_v2 m c) _).trans (cast1 _ t (lt6 t) e k))

/-- The query bias at point `t` is entries `128 t` to `128 t + 127` of the third argument. -/
theorem block2 (c : Dev nD) (t : Fin cfg0.N) (e : Fin 128) :
    iblk m c 2 t (ix3 0 0 e) = m ((c : Thread nD τ).loc main_arg2) (ix1 ⟨t * 128 + e, by have := lt6 t; omega⟩) := by
  have he : (win0_2.blk t).view.emb (ix3 0 0 e) = ix3 ⟨t, lt6 t⟩ 0 e := by blk_ext [idx2 t]
  exact (congrArg (V m c main_v3) he).trans ((congrFun (V_v3 m c) _).trans (cast2 _ t (lt6 t) e))

/-- The value bias at point `t` is entries `128 t` to `128 t + 127` of the fifth argument. -/
theorem block4 (c : Dev nD) (t : Fin cfg0.N) (e : Fin 128) :
    iblk m c 4 t (ix3 0 0 e) = m ((c : Thread nD τ).loc main_arg4) (ix1 ⟨t * 128 + e, by have := lt6 t; omega⟩) := by
  have he : (win0_4.blk t).view.emb (ix3 0 0 e) = ix3 ⟨t, lt6 t⟩ 0 e := by blk_ext [idx4 t]
  exact (congrArg (V m c main_v4) he).trans ((congrFun (V_v4 m c) _).trans (cast2 _ t (lt6 t) e))

/-- The hyperplanes at every point are the sixth argument. -/
theorem block5 (c : Dev nD) (t : Fin cfg0.N) (e : Fin 65) (k : Fin 2) :
    iblk m c 5 t (ix2 e k) = m ((c : Thread nD τ).loc main_arg5) (ix2 e k) := by
  show V m c main_arg5 ((win0_5.blk t).view.emb (ix2 e k)) = _
  rw [show (win0_5.blk t).view.emb (ix2 e k) = ix2 e k from by blk_ext [idx5 t], V_main_arg5]

/-! ## The result's entries -/

/-- The query projection of the arguments, head by head. -/
def Q (c : Dev nD) (h : Fin 12) (i : Fin 2048) (d : Fin 64) : EReal :=
  Attn.proj (fun i k => m ((c : Thread nD τ).loc main_arg0) (ix3 0 i k)) (fun i k => m ((c : Thread nD τ).loc main_arg1) (ix2 i k))
    (fun i => m ((c : Thread nD τ).loc main_arg2) (ix1 i)) h i d

/-- The value projection of the arguments, head by head. -/
def U (c : Dev nD) (h : Fin 12) (i : Fin 2048) (d : Fin 64) : EReal :=
  Attn.proj (fun i k => m ((c : Thread nD τ).loc main_arg0) (ix3 0 i k)) (fun i k => m ((c : Thread nD τ).loc main_arg3) (ix2 i k))
    (fun i => m ((c : Thread nD τ).loc main_arg4) (ix1 i)) h i d

/-- The result at row `i` and column `k`: head `k / 64`'s attention at row `i` and lane `k % 64`. -/
def entry (c : Dev nD) (i : Fin 2048) (k : Fin 768) : EReal :=
  Attn.kernelOut (((Real.log 2)⁻¹ * (Real.sqrt 768)⁻¹ : ℝ) : EReal) (Q m c ⟨k / 64, by omega⟩)
    (fun j => Attn.code (Q m c ⟨k / 64, by omega⟩ j) (fun d y => m ((c : Thread nD τ).loc main_arg5) (ix2 d y)))
    (fun j => U m c ⟨k / 64, by omega⟩ j ⟨k % 64, by omega⟩) i

/-! ## A grid point's projections -/

/-- The queries of the half `g` of point `t` are the query projection of head `2 t + g`. -/
theorem queries (c : Dev nD) (t : Fin cfg0.N) (g : Fin 2) (i : Fin 2048) (d : Fin 64) :
    half (k0_pay4 (iblk m c 0 t) (iblk m c 1 t) (iblk m c 2 t)) g i d = Q m c ⟨2 * t + g, by have := lt6 t; omega⟩ i d := by
  have e : (⟨t * 128 + (g * 64 + d), by have := lt6 t; omega⟩ : Fin 768) = ⟨(2 * t + g) * 64 + d, by have := lt6 t; omega⟩ := Fin.ext (by simp only; ring)
  unfold half Q Attn.proj
  rw [Tile.queries_apply]
  exact congrArg₂ (· + ·)
    (Finset.sum_congr rfl fun k _ => congrArg₂ (· * ·) (block0 m c t i k)
      ((block1 m c t _ k).trans (congrArg (fun z => m ((c : Thread nD τ).loc main_arg1) (ix2 z k)) e)))
    ((block2 m c t _).trans (congrArg (fun z => m ((c : Thread nD τ).loc main_arg2) (ix1 z)) e))

/-- The values of the half `g` of point `t` are the value projection of head `2 t + g`. -/
theorem values (c : Dev nD) (t : Fin cfg0.N) (g : Fin 2) (i : Fin 2048) (d : Fin 64) :
    half (k0_pay5 (iblk m c 0 t) (iblk m c 3 t) (iblk m c 4 t)) g i d = U m c ⟨2 * t + g, by have := lt6 t; omega⟩ i d := by
  have e : (⟨t * 128 + (g * 64 + d), by have := lt6 t; omega⟩ : Fin 768) = ⟨(2 * t + g) * 64 + d, by have := lt6 t; omega⟩ := Fin.ext (by simp only; ring)
  unfold half U Attn.proj
  rw [Tile.values_apply]
  exact congrArg₂ (· + ·)
    (Finset.sum_congr rfl fun k _ => congrArg₂ (· * ·) (block0 m c t i k)
      ((block3 m c t _ k).trans (congrArg (fun z => m ((c : Thread nD τ).loc main_arg3) (ix2 z k)) e)))
    ((block4 m c t _).trans (congrArg (fun z => m ((c : Thread nD τ).loc main_arg4) (ix1 z)) e))

/-! ## The result array -/

/-- What point `t` writes at row `i` and column `k` of its block. -/
theorem point (c : Dev nD) (t : Fin cfg0.N) (i : Fin 2048) (k : Fin 128) :
    out0_6 (iblk m c 0 t) (iblk m c 1 t) (iblk m c 2 t) (iblk m c 3 t) (iblk m c 4 t) (iblk m c 5 t) (ix2 i k)
      = entry m c i ⟨t * 128 + k, by have := lt6 t; omega⟩ := by
  have hh : (⟨2 * t + k / 64, by have := lt6 t; omega⟩ : Fin 12) = ⟨(t * 128 + k) / 64, by have := lt6 t; omega⟩ := Fin.ext (by simp only; omega)
  have hl : (⟨k % 64, by omega⟩ : Fin 64) = ⟨(t * 128 + k) % 64, by omega⟩ := Fin.ext (by simp only; omega)
  rw [out_apply]
  unfold attend
  have eq : half (k0_pay4 (iblk m c 0 t) (iblk m c 1 t) (iblk m c 2 t)) ⟨k / 64, by omega⟩ = Q m c ⟨2 * t + k / 64, by have := lt6 t; omega⟩ :=
    funext fun j => funext fun d => queries m c t ⟨k / 64, by omega⟩ j d
  have ev : (fun j => half (k0_pay5 (iblk m c 0 t) (iblk m c 3 t) (iblk m c 4 t)) ⟨k / 64, by omega⟩ j ⟨k % 64, by omega⟩)
      = fun j => U m c ⟨2 * t + k / 64, by have := lt6 t; omega⟩ j ⟨k % 64, by omega⟩ :=
    funext fun j => values m c t ⟨k / 64, by omega⟩ j ⟨k % 64, by omega⟩
  have ep : (fun d y => iblk m c 5 t (ix2 d y)) = fun (d : Fin 65) (y : Fin 2) => m ((c : Thread nD τ).loc main_arg5) (ix2 d y) :=
    funext fun d => funext fun y => block5 m c t d y
  rw [eq, ev, ep]
  unfold entry
  rw [← hh, ← hl]

/-- The array the region leaves: `entry` at every index. -/
def array (c : Dev nD) : S2048x768.Idx → EReal := fun y => entry m c (y 0) (y 1)

/-- The six blocks make up the result array. -/
theorem final (c : Dev nD) : (dats m 0 c).arrAt 6 cfg0.N = array m c := by
  refine (dats m 0 c).arrAt_eq_of_covers 6 _ (by decide +kernel) fun t hf y => ?_
  blk_simp
  rw [after0_6]
  have hy : y = ix2 (y 0) (y 1) := by funext a; fin_cases a <;> rfl
  have he : (win0_6.blk t).view.emb y = ix2 (y 0) ⟨t * 128 + (y 1).val, by have := lt6 t; have : (y 1).val < 128 := (y 1).isLt; omega⟩ := by blk_ext [idx6 t]
  refine ((congrArg _ hy).trans (point m c t (y 0) (y 1))).trans (congrArg (array m c) he).symm

end Cert.KernelIdeal.KArr

end
-- ==== Proof.KRun.lean ====
/- The kernel's run: its result is the array of entries, and its arguments stay. -/
module

public import proofs.«01_k».proof.Proof.KArr

@[expose] public section

set_option maxRecDepth 16384

noncomputable section

namespace Cert.KernelIdeal.KRun

open Cert.KernelIdeal Cert.KernelIdeal.Gen Cert.KernelIdeal.KArr Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel's result on device `c`: the region's array under a leading axis of length one. -/
def res (c : Dev nD) : Vec Ideal S1x2048x768 .f32 :=
  shapeCast (α := Ideal .f32) S1x2048x768 (array m c) shapeCasts_S2048x768_S1x2048x768

/-- The result at row `i` and column `k` is the entry there. -/
theorem res_apply (c : Dev nD) (i : Fin 2048) (k : Fin 768) : res m c (ix3 0 i k) = entry m c i k := by
  have h : ∀ x : Vec Ideal S2048x768 .f32, shapeCast (α := Ideal .f32) S1x2048x768 x shapeCasts_S2048x768_S1x2048x768 (ix3 0 i k) = x (ix2 i k) := by
    intro x
    pointwise
  exact h (array m c)

/-- No two windows share an array. -/
theorem arrays_differ : ∀ w w' : Fin 7, w ≠ w' → Pipeline.arrRef spec0 w ≠ Pipeline.arrRef spec0 w' := by decide

/-- The host's last operation gives the region's array its leading axis. -/
theorem tail_v6 (c : Dev nD) : Pipeline.afterTail₀ cfgs (dats m) 0 (V0 m) [hostOps1] c main_v6 = res m c := by
  unfold Pipeline.afterTail₀
  show StableHlo.after hostOps1 _ (Proc.devRef .tc main_v6) = _
  after_results
  have hw := Pipeline.withArrays_arr spec0 (fun a b e => not_imp_not.mp (arrays_differ a b) e) c (V0 m c)
    (fun w => (dats m 0 c).arrAt w cfg0.N) 6
  exact congrArg (fun x : Vec Ideal S2048x768 .f32 => shapeCast (α := Ideal .f32) S1x2048x768 x shapeCasts_S2048x768_S1x2048x768) (hw.trans (final m c))

/-- Every run of the kernel ends with `res` on every device and leaves the arguments as they were. -/
theorem run :
    θ_run defs (onTc (τ := τ) (main (F := Ideal))) ⟨m, fun _ => 0, ρ⟩ fun r => ∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩) (run_main m ρ)

end Cert.KernelIdeal.KRun

end
-- ==== Proof.Ref.lean ====
/- The reference's result, cut into its steps, each read at an index. -/
module

public import proofs.«01_k».proof.Proof.Gen.ReferenceIdeal.Run
public import proofs.«01_k».proof.Proof.Consts
public import proofs.«01_k».proof.Proof.Attn
public import Idealize.ShloMosaic.Lib.Pointwise

@[expose] public section

set_option maxRecDepth 16384

noncomputable section

namespace Cert.ReferenceIdeal.Steps

open Cert.ReferenceIdeal Cert.ReferenceIdeal.Gen Idealize.ShloMosaic

/-- A dense layer split into heads: `x wᵀ + b` as `[1, rows, heads, columns]`. -/
def heads (x : Vec Ideal S1x2048x768 .f32) (w : Vec Ideal S768x768 .f32) (b : Vec Ideal S768 .f32) : FVec Ideal S1x2048x12x64 .f32 :=
  shapeCast _ (addf (Host.dotGeneral (φ₁ := .f32) (φ₂ := .f32) dot_S1x2048x768_S768x768_S1x2048x768_2_0_01_1_n_n none x (transpose (α := Ideal .f32) S768x768 [1, 0] w transposes_S768x768_S768x768_1_0))
    (broadcastInDim S1x2048x768 ![0, 1, 2] bcast_S1x1x768_S1x2048x768_0_1_2 (broadcastInDim S1x1x768 ![2] bcast_S768_S1x1x768_2 b))) shapeCasts_S1x2048x768_S1x2048x12x64

/-- The sides of the hyperplanes on which the queries, extended by a one, lie: the inner products. -/
def sides (q : FVec Ideal S1x2048x12x64 .f32) (h : Vec Ideal S65x2 .f32) : FVec Ideal S1x2048x12x2 .f32 :=
  Host.dotGeneral (φ₁ := .f32) (φ₂ := .f32) dot_S1x2048x12x65_S65x2_S1x2048x12x2_3_0_012_1_n_n none
    (concatenate S1x2048x12x65 3 [⟨S1x2048x12x64, q⟩, ⟨S1x2048x12x1, broadcastInDim S1x2048x12x1 ![] bcast_S_S1x2048x12x1 (constant S_ .f32 0x3F800000#32)⟩] concatenates_S1x2048x12x64_S1x2048x12x1_S1x2048x12x65_d3) h

/-- The bucket numbers, computed on floats: the bits of the sides against the powers of two. -/
def buckets (p : FVec Ideal S1x2048x12x2 .f32) : FVec Ideal S1x2048x12 .f32 :=
  Host.dotGeneral dot_S1x2048x12x2_S2_S1x2048x12_3_0_012_n_n_n none
    (select (cmpf .oge p (broadcastInDim S1x2048x12x2 ![] bcast_S_S1x2048x12x2 (constant S_ .f32 0x00000000#32)))
      (broadcastInDim S1x2048x12x2 ![] bcast_S_S1x2048x12x2 (constant S_ .f32 0x3F800000#32)) (broadcastInDim S1x2048x12x2 ![] bcast_S_S1x2048x12x2 (constant S_ .f32 0x00000000#32)))
    (Host.powf (broadcastInDim S2 ![] bcast_S_S2 (constant S_ .f32 0x40000000#32)) (sitofp .f32 (iotaInDim S2 32 0)))

/-- The one-hot rows of the bucket numbers. -/
def onehot (b : FVec Ideal S1x2048x12 .f32) : FVec Ideal S1x2048x12x4 .f32 :=
  uitofp .f32 (cmpi .eq (broadcastInDim S1x2048x12x4 ![0, 1, 2, 3] bcast_S1x2048x12x1_S1x2048x12x4_0_1_2_3 (broadcastInDim S1x2048x12x1 ![0, 1, 2] bcast_S1x2048x12_S1x2048x12x1_0_1_2 (fptosi 32 b)))
    (broadcastInDim S1x2048x12x4 ![0, 1, 2, 3] bcast_S1x1x1x4_S1x2048x12x4_0_1_2_3 (iotaInDim S1x1x1x4 32 3)))

/-- The queries once per bucket, zero outside of it. -/
def masked (o : FVec Ideal S1x2048x12x4 .f32) (q : FVec Ideal S1x2048x12x64 .f32) : FVec Ideal S4x1x12x2048x64 .f32 :=
  mulf (broadcastInDim S4x1x12x2048x64 ![0, 1, 2, 3, 4] bcast_S4x1x12x2048x1_S4x1x12x2048x64_0_1_2_3_4 (broadcastInDim S4x1x12x2048x1 ![0, 1, 2, 3] bcast_S4x1x12x2048_S4x1x12x2048x1_0_1_2_3 (transpose S4x1x12x2048 [3, 0, 2, 1] o transposes_S1x2048x12x4_S4x1x12x2048_3_0_2_1)))
    (broadcastInDim S4x1x12x2048x64 ![0, 1, 2, 3, 4] bcast_S1x1x12x2048x64_S4x1x12x2048x64_0_1_2_3_4 (broadcastInDim S1x1x12x2048x64 ![1, 2, 3, 4] bcast_S1x12x2048x64_S1x1x12x2048x64_1_2_3_4 (transpose S1x12x2048x64 [0, 2, 1, 3] q transposes_S1x2048x12x64_S1x12x2048x64_0_2_1_3)))

/-- The scores: the masked queries' inner products over the root of the width, summed over the buckets. -/
def scores (k : FVec Ideal S4x1x12x2048x64 .f32) : FVec Ideal S1x12x2048x2048 .f32 :=
  Host.reduceAdd (Host.divf (broadcastInDim S4x1x12x2048x2048 ![0, 2, 3, 4] bcast_S4x12x2048x2048_S4x1x12x2048x2048_0_2_3_4
      (Host.dotGeneral dot_S4x12x2048x64_S4x12x64x2048_S4x12x2048x2048_3_2_2_3_01_01 none (shapeCast _ k shapeCasts_S4x1x12x2048x64_S4x12x2048x64)
        (shapeCast _ (transpose S4x1x12x64x2048 [0, 1, 2, 4, 3] k transposes_S4x1x12x2048x64_S4x1x12x64x2048_0_1_2_4_3) shapeCasts_S4x1x12x64x2048_S4x12x64x2048)))
    (broadcastInDim S4x1x12x2048x2048 ![] bcast_S_S4x1x12x2048x2048 (Host.sqrt (constant S_ .f32 0x44400000#32)))) (constant S_ .f32 0x00000000#32) reducesTo_S4x1x12x2048x2048_S1x12x2048x2048_d0 h_S_

/-- The largest score of each row. -/
def rowmax (s : FVec Ideal S1x12x2048x2048 .f32) : FVec Ideal S1x12x2048 .f32 :=
  Host.reduce FloatOps.maximumf s (constant S_ .f32 0xFF800000#32) reducesTo_S1x12x2048x2048_S1x12x2048_d3 h_S_

/-- The exponentials of the scores, each row's largest subtracted. -/
def expo (s : FVec Ideal S1x12x2048x2048 .f32) (r : FVec Ideal S1x12x2048 .f32) : FVec Ideal S1x12x2048x2048 .f32 :=
  Host.exp (subf s (broadcastInDim S1x12x2048x2048 ![0, 1, 2, 3] bcast_S1x12x2048x1_S1x12x2048x2048_0_1_2_3 (broadcastInDim S1x12x2048x1 ![0, 1, 2] bcast_S1x12x2048_S1x12x2048x1_0_1_2
    (maximumf (broadcastInDim S1x12x2048 ![] bcast_S_S1x12x2048 (constant S_ .f32 0xFF800000#32)) r))))

/-- The attention weights: each row of exponentials over its sum. -/
def weights (e : FVec Ideal S1x12x2048x2048 .f32) : FVec Ideal S1x12x2048x2048 .f32 :=
  Host.divf e (broadcastInDim S1x12x2048x2048 ![0, 1, 2, 3] bcast_S1x12x2048x1_S1x12x2048x2048_0_1_2_3 (broadcastInDim S1x12x2048x1 ![0, 1, 2] bcast_S1x12x2048_S1x12x2048x1_0_1_2
    (Host.reduceAdd e (constant S_ .f32 0x00000000#32) reducesTo_S1x12x2048x2048_S1x12x2048_d3 h_S_)))

/-- The output: the weighted sums of the values, the heads side by side. -/
def output (a : FVec Ideal S1x12x2048x2048 .f32) (v : FVec Ideal S1x2048x12x64 .f32) : FVec Ideal S1x2048x768 .f32 :=
  shapeCast _ (transpose S1x2048x12x64 [0, 2, 1, 3] (broadcastInDim S1x12x2048x64 ![1, 2, 3] bcast_S12x2048x64_S1x12x2048x64_1_2_3
    (Host.dotGeneral dot_S12x2048x2048_S12x2048x64_S12x2048x64_2_1_1_2_0_0 none (shapeCast _ a shapeCasts_S1x12x2048x2048_S12x2048x2048)
      (shapeCast _ (transpose S1x12x2048x64 [0, 2, 1, 3] v transposes_S1x2048x12x64_S1x12x2048x64_0_2_1_3) shapeCasts_S1x12x2048x64_S12x2048x64)))
    transposes_S1x12x2048x64_S1x2048x12x64_0_2_1_3) shapeCasts_S1x2048x12x64_S1x2048x768

/-- The masked scores of a head's queries, from the arguments. -/
def scoresOf (q : FVec Ideal S1x2048x12x64 .f32) (h : Vec Ideal S65x2 .f32) : FVec Ideal S1x12x2048x2048 .f32 :=
  scores (masked (onehot (buckets (sides q h))) q)

/-- The attention weights of scores. -/
def attend (s : FVec Ideal S1x12x2048x2048 .f32) : FVec Ideal S1x12x2048x2048 .f32 :=
  weights (expo s (rowmax s))

/-- The steps in a row, from the six arguments. -/
def result (x : Vec Ideal S1x2048x768 .f32) (wq : Vec Ideal S768x768 .f32) (bq : Vec Ideal S768 .f32) (wv : Vec Ideal S768x768 .f32) (bv : Vec Ideal S768 .f32) (h : Vec Ideal S65x2 .f32) : FVec Ideal S1x2048x768 .f32 :=
  output (attend (scoresOf (heads x wq bq) h)) (heads x wv bv)

set_option maxHeartbeats 4000000 in
/-- The reference's composed term is the steps in a row. -/
theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_out0 Value.res_main_v61 result attend scoresOf output weights expo rowmax scores masked onehot buckets sides heads
  rfl

/-! ## The steps, read at an index -/

/-- A dense layer split into heads, at row `i`, head `h`, column `e`. -/
theorem heads_apply (x : Vec Ideal S1x2048x768 .f32) (w : Vec Ideal S768x768 .f32) (b : Vec Ideal S768 .f32) (i : Fin 2048) (h : Fin 12) (e : Fin 64) :
    heads x w b (ix4 0 i h e) = Attn.proj (fun i k => x (ix3 0 i k)) (fun i k => w (ix2 i k)) (fun i => b (ix1 i)) h i e := by
  pointwise [heads]
  rfl

/-- The sides of the hyperplanes: the product with the last row of the table is the product with the appended one. -/
theorem sides_apply (q : FVec Ideal S1x2048x12x64 .f32) (p : Vec Ideal S65x2 .f32) (i : Fin 2048) (h : Fin 12) (y : Fin 2) :
    sides q p (ix4 0 i h y) = Attn.side (fun e => q (ix4 0 i h e)) (fun e y => p (ix2 e y)) y := by
  pointwise [sides]
  unfold Attn.side
  congr 1
  simp

/-- The bucket numbers: the bits against the powers of two. -/
theorem buckets_apply (p : FVec Ideal S1x2048x12x2 .f32) (i : Fin 2048) (h : Fin 12) :
    buckets p (ix3 0 i h) = ((Attn.number (p (ix4 0 i h 0)) (p (ix4 0 i h 1)) : ℝ) : EReal) := by
  pointwise [buckets]
  rw [Fin.sum_univ_two, Consts.ofBits_two,
    show FloatOps.sitofp (F := Ideal) FTy.f32 (BitVec.ofNat 32 ((0 : Fin 2) : ℕ)) = ((0 : ℝ) : EReal) from by simp [FloatOps.sitofp],
    show FloatOps.sitofp (F := Ideal) FTy.f32 (BitVec.ofNat 32 ((1 : Fin 2) : ℕ)) = ((1 : ℝ) : EReal) from by simp [FloatOps.sitofp]]
  have h0 : Ideal.pow ((2 : ℝ) : EReal) ((0 : ℝ) : EReal) = 1 := by
    rw [Ideal.pow_coe_coe, show Real.rpow 2 0 = 1 from Real.rpow_zero 2]; rfl
  have h1 : Ideal.pow ((2 : ℝ) : EReal) ((1 : ℝ) : EReal) = ((2 : ℝ) : EReal) := by
    rw [Ideal.pow_coe_coe, show Real.rpow 2 1 = 2 from Real.rpow_one 2]
  have h3 : (1 : EReal) + ((2 : ℝ) : EReal) = ((3 : ℝ) : EReal) := by
    rw [← EReal.coe_one, ← EReal.coe_add]; norm_num
  rw [h0, h1]
  unfold Attn.number
  split <;> split <;> simp [h3] <;> norm_num [h3]

/-- A number below four, converted from a float to a word, is itself. -/
theorem fptosi_number {n : ℕ} (hn : n < 4) : Ideal.fptosi 32 (((n : ℝ)) : EReal) = BitVec.ofNat 32 n := by
  unfold Ideal.fptosi
  rw [Ideal.toIntClamped_coe]
  interval_cases n <;> norm_num

/-- The one-hot row of a bucket number below four. -/
theorem onehot_apply (b : FVec Ideal S1x2048x12 .f32) (i : Fin 2048) (h : Fin 12) (y : Fin 4) {n : ℕ} (hn : n < 4)
    (hb : b (ix3 0 i h) = ((n : ℝ) : EReal)) :
    onehot b (ix4 0 i h y) = Attn.hot n y := by
  pointwise [onehot]
  rw [hb, show FloatOps.fptosi (F := Ideal) (φ := .f32) 32 ((n : ℝ) : EReal) = BitVec.ofNat 32 n from fptosi_number hn]
  unfold Attn.hot
  interval_cases n <;> fin_cases y <;> simp [IntOp.cmpi, FloatOps.uitofp]

/-- The masked queries. -/
theorem masked_apply (o : FVec Ideal S1x2048x12x4 .f32) (q : FVec Ideal S1x2048x12x64 .f32) (i : Fin 2048) (h : Fin 12) (b : Fin 4) (e : Fin 64) :
    masked o q (ix5 b 0 h i e) = o (ix4 0 i h b) * q (ix4 0 i h e) := by
  pointwise [masked]

/-- The scores of masked queries. -/
theorem scores_apply (k : FVec Ideal S4x1x12x2048x64 .f32) (h : Fin 12) (i j : Fin 2048) :
    scores k (ix4 0 h i j) = ∑ b : Fin 4, Ideal.div (∑ d : Fin 64, k (ix5 b 0 h i d) * k (ix5 b 0 h j d)) (Ideal.sqrt ((768 : ℝ) : EReal)) := by
  pointwise [scores]
  rw [Consts.ofBits_768]

/-- A maximum over the last of four axes, read at an index: the fold of `max` along that axis. -/
theorem reduce_max_last {n0 n1 n2 n3 : ℕ} (x : (⟨4, ![n0, n1, n2, n3]⟩ : Shape).Idx → EReal) (init : S_.Idx → EReal)
    (hr : (⟨4, ![n0, n1, n2, n3]⟩ : Shape).ReducesTo [3] ⟨3, ![n0, n1, n2]⟩) (hu : 0 < S_.numel) (a : Fin n0) (b : Fin n1) (c : Fin n2) :
    Host.reduce (max : EReal → EReal → EReal) x init hr hu (ix3 a b c) = (Finset.univ : Finset (Fin n3)).fold max (init (Shape.Idx.first hu)) (fun k => x (ix4 a b c k)) := by
  rw [Host.reduce_eq_fold, Shape.ReducesTo.fold_fiber_r4_a3 hr]
  rfl

/-- The row maxima. -/
theorem rowmax_apply (k : FVec Ideal S1x12x2048x2048 .f32) (h : Fin 12) (i : Fin 2048) :
    rowmax k (ix3 0 h i) = (Finset.univ : Finset (Fin 2048)).fold max ⊥ (fun j => k (ix4 0 h i j)) := by
  refine (reduce_max_last k _ reducesTo_S1x12x2048x2048_S1x12x2048_d3 h_S_ 0 h i).trans ?_
  rw [show (constant S_ .f32 0xFF800000#32 : FVec Ideal S_ .f32) (Shape.Idx.first h_S_) = ⊥ from Consts.ofBits_neg_inf]

/-- The exponentials. -/
theorem expo_apply (k : FVec Ideal S1x12x2048x2048 .f32) (r : FVec Ideal S1x12x2048 .f32) (h : Fin 12) (i j : Fin 2048) :
    expo k r (ix4 0 h i j) = Ideal.exp (k (ix4 0 h i j) - max ⊥ (r (ix3 0 h i))) := by
  pointwise [expo]
  rw [Consts.ofBits_neg_inf]

/-- The attention weights. -/
theorem weights_apply (k : FVec Ideal S1x12x2048x2048 .f32) (h : Fin 12) (i j : Fin 2048) :
    weights k (ix4 0 h i j) = Ideal.div (k (ix4 0 h i j)) (∑ l : Fin 2048, k (ix4 0 h i l)) := by
  pointwise [weights]

/-- The output at row `i` and column `c`, which is column `c % 64` of head `c / 64`. -/
theorem output_apply (k : FVec Ideal S1x12x2048x2048 .f32) (v : FVec Ideal S1x2048x12x64 .f32) (i : Fin 2048) (c : Fin 768)  :
    output k v (ix3 0 i c) = ∑ j : Fin 2048, k (ix4 0 ⟨c / 64, by omega⟩ i j) * v (ix4 0 j ⟨c / 64, by omega⟩ ⟨c % 64, by omega⟩) := by
  pointwise [output]

/-- The scores of a head's queries are the masked scores of the mathematics. -/
theorem scoresOf_apply (q : FVec Ideal S1x2048x12x64 .f32) (p : Vec Ideal S65x2 .f32) (h : Fin 12) (i j : Fin 2048) :
    scoresOf q p (ix4 0 h i j) = Attn.score (fun i e => q (ix4 0 i h e)) (fun i => Attn.code (fun e => q (ix4 0 i h e)) (fun e y => p (ix2 e y))) i j := by
  have ho : ∀ (i : Fin 2048) (b : Fin 4), onehot (buckets (sides q p)) (ix4 0 i h b) = Attn.hot (Attn.code (fun e => q (ix4 0 i h e)) (fun e y => p (ix2 e y))) b := fun i b =>
    onehot_apply _ i h b (Attn.number_lt _ _) (by rw [buckets_apply, sides_apply, sides_apply]; rfl)
  unfold scoresOf Attn.score
  rw [scores_apply]
  simp only [masked_apply, ho]

/-- THE REFERENCE AT AN INDEX: the softmax attention within buckets of the head the column belongs to. -/
theorem result_apply (x : Vec Ideal S1x2048x768 .f32) (wq : Vec Ideal S768x768 .f32) (bq : Vec Ideal S768 .f32) (wv : Vec Ideal S768x768 .f32) (bv : Vec Ideal S768 .f32) (p : Vec Ideal S65x2 .f32)
    (i : Fin 2048) (c : Fin 768) :
    result x wq bq wv bv p (ix3 0 i c) =
      Attn.referenceOut (Attn.proj (fun i k => x (ix3 0 i k)) (fun i k => wq (ix2 i k)) (fun i => bq (ix1 i)) ⟨c / 64, by omega⟩)
        (fun j => Attn.code (Attn.proj (fun i k => x (ix3 0 i k)) (fun i k => wq (ix2 i k)) (fun i => bq (ix1 i)) ⟨c / 64, by omega⟩ j) (fun e y => p (ix2 e y)))
        (fun j => Attn.proj (fun i k => x (ix3 0 i k)) (fun i k => wv (ix2 i k)) (fun i => bv (ix1 i)) ⟨c / 64, by omega⟩ j ⟨c % 64, by omega⟩) i := by
  unfold result attend Attn.referenceOut Attn.expo
  simp only [output_apply, weights_apply, expo_apply, rowmax_apply, scoresOf_apply, heads_apply]

end Cert.ReferenceIdeal.Steps

end
-- ==== Proof.Pre.lean ====
/- What the precondition says of the arguments. -/
module

public import proofs.«01_k».proof.Proof.Consts
public import proofs.«01_k».proof.Proof.Gen.Pre_finite_queries
public import Idealize.ShloMosaic.Lib.ReduceAll
public import Idealize.ShloMosaic.Lib.Pointwise

@[expose] public section

noncomputable section

namespace Cert.Pre

open Cert.Pre_finite_queries Cert.Pre_finite_queries.Gen Idealize.ShloMosaic

/-- An extended real whose absolute value compares below plus infinity is a real number. -/
theorem real_of_cmp (x : EReal) (h : Ideal.cmp .olt (max x (-x)) (Ideal.ofBits .f32 0x7F800000#32) = 1#1) : ∃ r : ℝ, x = r := by
  rw [Consts.ofBits_inf] at h
  have hlt : max x (-x) < ⊤ := by
    by_contra hn
    simp [Ideal.cmp, hn] at h
  induction x with
  | bot => simp at hlt
  | top => simp at hlt
  | coe r => exact ⟨r, rfl⟩

/-- The array whose every absolute value is compared with plus infinity holds reals where the conjunction is one. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : ∃ r : ℝ, x i = r :=
  haveI : Subsingleton S_.Idx := ⟨fun a b => funext fun k => k.elim0⟩
  real_of_cmp (x i) (Host.reduce_andi_all _ _ hr hu j h i)

/-- Two bits whose conjunction is one are both one. -/
theorem both (a b : BitVec 1) (h : IntOp.andi a b = 1#1) : a = 1#1 ∧ b = 1#1 := by
  revert a b; decide

/-- Where the precondition holds, the input rows, the query weights and the query bias are real. -/
theorem real (x : FVec Ideal S1x2048x768 .f32) (wq : FVec Ideal S768x768 .f32) (bq : FVec Ideal S768 .f32)
    (wv : FVec Ideal S768x768 .f32) (bv : FVec Ideal S768 .f32) (p : FVec Ideal S65x2 .f32)
    (h : Cert.Pre_finite_queries.fn (F := Ideal) x wq bq wv bv p = fun _ => 1#1) :
    (∀ i, ∃ r : ℝ, x i = r) ∧ (∀ i, ∃ r : ℝ, wq i = r) ∧ ∀ i, ∃ r : ℝ, bq i = r := by
  have h0 := congrFun h (fun k => k.elim0)
  obtain ⟨hxw, hb⟩ := both _ _ h0
  obtain ⟨hx, hw⟩ := both _ _ hxw
  exact ⟨real_of_all x _ _ _ _ hx, real_of_all wq _ _ _ _ hw, real_of_all bq _ _ _ _ hb⟩

end Cert.Pre

end
-- ==== Proof.Equation.lean ====
/- Kernel and reference compute the same array. -/
module

public import proofs.«01_k».proof.Proof.KRun
public import proofs.«01_k».proof.Proof.Ref
public import proofs.«01_k».proof.Proof.Pre
public import proofs.«01_k».proof.Defs

@[expose] public section

set_option maxRecDepth 16384

noncomputable section

namespace Cert.Equation

open Cert.KernelIdeal Cert.KernelIdeal.KArr Cert.KernelIdeal.KRun Idealize.ShloMosaic Idealize.ShloMosaic.TcCoe Idealize.SL.Sem

variable (m : (ℓ : Loc nD τ sig) → Buf (Elt Ideal) ℓ)

/-- Under the precondition every query is a real number. -/
theorem queries_real (hpre : Cert.Pre_KernelIdeal_finite_queries m) (c : Dev nD) (h : Fin 12) (i : Fin 2048) (d : Fin 64) :
    ∃ r : ℝ, Q m c h i d = r := by
  obtain ⟨hx, hw, hb⟩ := Pre.real _ _ _ _ _ _ (hpre c)
  exact Attn.proj_real _ _ _ (fun i k => hx _) (fun i k => hw _) (fun i => hb _) h i d

/-- Under the precondition the kernel's result is the reference's function of the kernel's arguments. -/
theorem res_eq_result (hpre : Cert.Pre_KernelIdeal_finite_queries m) (c : Dev nD) :
    res m c = Cert.ReferenceIdeal.Steps.result (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  funext y
  have hy : y = ix3 0 (y 1) (y 2) := by
    funext a
    fin_cases a
    · exact Subsingleton.elim (α := Fin 1) _ _
    · rfl
    · rfl
  rw [hy]
  refine (res_apply m c (y 1) (y 2)).trans (Eq.trans ?_ (Cert.ReferenceIdeal.Steps.result_apply _ _ _ _ _ _ (y 1) (y 2)).symm)
  exact Attn.kernelOut_eq _ (fun i d => queries_real m hpre c _ i d) _ (fun i => Attn.number_lt _ _) _ _

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_queries
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments and every semaphore counter as they were. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Kernel and reference, run from the same arguments, end with the same result. -/
theorem values : Cert.algebraic_KernelIdeal_ReferenceIdeal_pre_finite_queries := by
  intro m ρ m' ρ' hpre hagree
  refine ⟨fun c => Cert.KernelIdeal.KRun.res m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  refine (Cert.ReferenceIdeal.Steps.res_eq m' c).trans (Eq.trans ?_ (Cert.Equation.res_eq_result m hpre c).symm)
  rw [h0, h1, h2, h3, h4, h5]

/-- The claims: the three programs' frames, the named constant, and the value. -/
theorem claim : Cert.Claim :=
  ⟨Cert.Kernel.Gen.facts, Cert.KernelIdeal.Gen.facts, Cert.ReferenceIdeal.Gen.facts, Cert.Pre_finite_queries.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "log2e_over_sqrt" .f32 0x3D553B95#32
      (((Real.log 2)⁻¹ * (Real.sqrt 768)⁻¹ : ℝ) : EReal) rfl,
    values⟩

end Cert.Proof

end
